-- ==== Defs.lean ====
def Pre_Kernel [hPre_groups_fit : Cert.Pre_groups_fit.Facts] (m : (ℓ : Loc Cert.Kernel.nD Cert.Kernel.τ Cert.Kernel.sig) → Buf (Elt Bits) ℓ) : Prop :=
  ∀ c : Dev Cert.Kernel.nD,
    (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2 = (fun _ => 1#1)

def Pre_KernelIdeal [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit [hPre_groups_fit : Cert.Pre_groups_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_groups_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_groups_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_groups_fit : Cert.Pre_groups_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_fit [hReferenceIdeal : Cert.ReferenceIdeal.Facts] [hPre_groups_fit : Cert.Pre_groups_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_fit : Cert.Pre_groups_fit.Facts),
    quiescent_Kernel (hKernel := hKernel) (hPre_groups_fit := hPre_groups_fit)
    ∧ quiescent_KernelIdeal (hKernelIdeal := hKernelIdeal) (hPre_groups_fit := hPre_groups_fit)
    ∧ quiescent_ReferenceIdeal (hReferenceIdeal := hReferenceIdeal)
    ∧ quiescent_ReferenceIdeal_pre_groups_fit (hReferenceIdeal := hReferenceIdeal) (hPre_groups_fit := hPre_groups_fit)
    ∧ preserves_Kernel_KernelIdeal
    ∧ algebraic_KernelIdeal_ReferenceIdeal (hKernelIdeal := hKernelIdeal) (hReferenceIdeal := hReferenceIdeal) (hPre_groups_fit := hPre_groups_fit)
-- ==== Pre_groups_fit.lean ====
abbrev S3 : Shape := ⟨1, ![3]⟩
abbrev S13312x5120 : Shape := ⟨2, ![13312, 5120]⟩
abbrev S13312x8192 : Shape := ⟨2, ![13312, 8192]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel

variable [Facts]

def fn {F : FTy → Type} [FloatOps F] (main_arg0 : IVec S3 32) (main_arg1 : FVec F S13312x5120 .bf16) (main_arg2 : FVec F S13312x8192 .bf16) : IVec S3 1 × IVec S3 1 × IVec S_ 1 :=
  let main_c : IVec S_ 32 := constantI S_ 32 0#32
  let main_v0 : IVec S3 32 := broadcastInDim S3 ![] bcast_S_S3 main_c
  let main_v1 : IVec S3 1 := cmpi .sge main_arg0 main_v0
  let main_c_0 : IVec S_ 32 := constantI S_ 32 12288#32
  let main_v2 : IVec S3 32 := broadcastInDim S3 ![] bcast_S_S3 main_c_0
  let main_v3 : IVec S3 1 := cmpi .sle main_arg0 main_v2
  let main_c_1 : IVec S_ 32 := constantI S_ 32 0#32
  let main_v4 : IVec S_ 32 := (fun x v => Host.reduce IntOp.addi x v reducesTo_S3_S_d0 h_S_) main_arg0 main_c_1
  let main_c_2 : IVec S_ 32 := constantI S_ 32 12288#32
  let main_v5 : IVec S_ 1 := cmpi .sle main_v4 main_c_2
  (main_v1, main_v3, main_v5)
-- ==== Kernel.lean ====
abbrev S3 : Shape := ⟨1, ![3]⟩
abbrev S13312x5120 : Shape := ⟨2, ![13312, 5120]⟩
abbrev S13312x8192 : Shape := ⟨2, ![13312, 8192]⟩
abbrev S_ : Shape := ⟨0, ![]⟩
abbrev S28 : Shape := ⟨1, ![28]⟩
abbrev S1 : Shape := ⟨1, ![1]⟩
abbrev S1x28 : Shape := ⟨2, ![1, 28]⟩
abbrev S3x1 : Shape := ⟨2, ![3, 1]⟩
abbrev S3x28 : Shape := ⟨2, ![3, 28]⟩
abbrev S28x1 : Shape := ⟨2, ![28, 1]⟩
abbrev S3x5120x8192 : Shape := ⟨3, ![3, 5120, 8192]⟩
abbrev S512x2560 : Shape := ⟨2, ![512, 2560]⟩
abbrev S512x1024 : Shape := ⟨2, ![512, 1024]⟩
abbrev S1x2560x1024 : Shape := ⟨3, ![1, 2560, 1024]⟩
abbrev S2560x1024 : Shape := ⟨2, ![2560, 1024]⟩
abbrev S512x1 : Shape := ⟨2, ![512, 1]⟩

abbrev nBuf : Space → Nat
  | .hbm => 134
  | .vmem => 6
  | .smem => 4
  | _ => 0

abbrev hbmTy0_0 (i : Nat) : BufTy := match i % 128 with
  | 0 => ⟨S3, .i32⟩
  | 1 => ⟨S13312x5120, .bf16⟩
  | 2 => ⟨S13312x8192, .bf16⟩
  | 3 => ⟨S_, .i32⟩
  | 4 => ⟨S3, .i32⟩
  | 5 => ⟨S3, .i32⟩
  | 6 => ⟨S_, .i32⟩
  | 7 => ⟨S3, .i32⟩
  | 8 => ⟨S3, .i32⟩
  | 9 => ⟨S_, .i32⟩
  | 10 => ⟨S_, .i32⟩
  | 11 => ⟨S3, .i32⟩
  | 12 => ⟨S3, .i32⟩
  | 13 => ⟨S3, .i32⟩
  | 14 => ⟨S_, .i32⟩
  | 15 => ⟨S3, .i32⟩
  | 16 => ⟨S3, .i1⟩
  | 17 => ⟨S3, .i32⟩
  | 18 => ⟨S3, .i32⟩
  | 19 => ⟨S_, .i32⟩
  | 20 => ⟨S3, .i32⟩
  | 21 => ⟨S3, .i1⟩
  | 22 => ⟨S3, .i1⟩
  | 23 => ⟨S_, .i32⟩
  | 24 => ⟨S3, .i32⟩
  | 25 => ⟨S3, .i32⟩
  | 26 => ⟨S3, .i32⟩
  | 27 => ⟨S_, .i32⟩
  | 28 => ⟨S3, .i32⟩
  | 29 => ⟨S3, .i32⟩
  | 30 => ⟨S_, .i32⟩
  | 31 => ⟨S_, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S_, .i32⟩
  | 41 => ⟨S_, .i32⟩
  | 42 => ⟨S3, .i32⟩
  | 43 => ⟨S3, .i32⟩
  | 44 => ⟨S3, .i32⟩
  | 45 => ⟨S_, .i32⟩
  | 46 => ⟨S3, .i32⟩
  | 47 => ⟨S3, .i1⟩
  | 48 => ⟨S3, .i32⟩
  | 49 => ⟨S3, .i32⟩
  | 50 => ⟨S_, .i32⟩
  | 51 => ⟨S3, .i32⟩
  | 52 => ⟨S3, .i1⟩
  | 53 => ⟨S3, .i1⟩
  | 54 => ⟨S_, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S_, .i32⟩
  | 62 => ⟨S_, .i32⟩
  | 63 => ⟨S3, .i32⟩
  | 64 => ⟨S28, .i32⟩
  | 65 => ⟨S1, .i32⟩
  | 66 => ⟨S_, .i32⟩
  | 67 => ⟨S28, .i32⟩
  | 68 => ⟨S28, .i1⟩
  | 69 => ⟨S1, .i32⟩
  | 70 => ⟨S_, .i32⟩
  | 71 => ⟨S_, .i32⟩
  | 72 => ⟨S_, .i32⟩
  | 73 => ⟨S28, .i32⟩
  | 74 => ⟨S28, .i32⟩
  | 75 => ⟨S1x28, .i32⟩
  | 76 => ⟨S3x1, .i32⟩
  | 77 => ⟨S3x28, .i32⟩
  | 78 => ⟨S3x28, .i32⟩
  | 79 => ⟨S3x28, .i1⟩
  | 80 => ⟨S3x28, .i32⟩
  | 81 => ⟨S_, .i32⟩
  | 82 => ⟨S3, .i32⟩
  | 83 => ⟨S_, .i32⟩
  | 84 => ⟨S28, .i32⟩
  | 85 => ⟨S28, .i1⟩
  | 86 => ⟨S_, .i32⟩
  | 87 => ⟨S28, .i32⟩
  | 88 => ⟨S28, .i32⟩
  | 89 => ⟨S28, .i32⟩
  | 90 => ⟨S28x1, .i32⟩
  | 91 => ⟨S28, .i32⟩
  | 92 => ⟨S28, .i32⟩
  | 93 => ⟨S_, .i32⟩
  | 94 => ⟨S28, .i32⟩
  | 95 => ⟨S28, .i1⟩
  | 96 => ⟨S_, .i32⟩
  | 97 => ⟨S28, .i32⟩
  | 98 => ⟨S28, .i32⟩
  | 99 => ⟨S28, .i32⟩
  | 100 => ⟨S28x1, .i32⟩
  | 101 => ⟨S28, .i32⟩
  | 102 => ⟨S_, .i32⟩
  | 103 => ⟨S28, .i32⟩
  | 104 => ⟨S28, .i32⟩
  | 105 => ⟨S28, .i32⟩
  | 106 => ⟨S_, .i32⟩
  | 107 => ⟨S_, .i32⟩
  | 108 => ⟨S_, .i32⟩
  | 109 => ⟨S28, .i32⟩
  | 110 => ⟨S28, .i32⟩
  | 111 => ⟨S_, .i32⟩
  | 112 => ⟨S28, .i32⟩
  | 113 => ⟨S28, .i32⟩
  | 114 => ⟨S_, .i32⟩
  | 115 => ⟨S_, .i32⟩
  | 116 => ⟨S28, .i32⟩
  | 117 => ⟨S_, .i32⟩
  | 118 => ⟨S28, .i32⟩
  | 119 => ⟨S28, .i1⟩
  | 120 => ⟨S_, .i32⟩
  | 121 => ⟨S28, .i32⟩
  | 122 => ⟨S28, .i32⟩
  | 123 => ⟨S28, .i32⟩
  | 124 => ⟨S28x1, .i32⟩
  | 125 => ⟨S28, .i32⟩
  | 126 => ⟨S_, .i32⟩
  | 127 => ⟨S28, .i32⟩
  | _ => ⟨S3, .i32⟩

abbrev hbmTy0_1 (i : Nat) : BufTy := match i % 128 with
  | 0 => ⟨S28, .i32⟩
  | 1 => ⟨S_, .i32⟩
  | 2 => ⟨S28, .i32⟩
  | 3 => ⟨S28, .i1⟩
  | 4 => ⟨S28, .i1⟩
  | 5 => ⟨S3x5120x8192, .f32⟩
  | _ => ⟨S3, .i32⟩

abbrev hbmTy (i : Nat) : BufTy := match i / 128 with
  | 0 => hbmTy0_0 i
  | 1 => hbmTy0_1 i
  | _ => ⟨S3, .i32⟩

abbrev bufTy : (tb : Table) → Fin (tcTables nBuf tb) → BufTy
  | .hbm, ⟨i, _⟩ => hbmTy i
  | .local _ .vmem, ⟨0, _⟩ => ⟨S512x2560, .bf16⟩
  | .local _ .vmem, ⟨1, _⟩ => ⟨S512x2560, .bf16⟩
  | .local _ .vmem, ⟨2, _⟩ => ⟨S512x1024, .bf16⟩
  | .local _ .vmem, ⟨3, _⟩ => ⟨S512x1024, .bf16⟩
  | .local _ .vmem, ⟨4, _⟩ => ⟨S1x2560x1024, .f32⟩
  | .local _ .vmem, ⟨5, _⟩ => ⟨S1x2560x1024, .f32⟩
  | .local _ .smem, ⟨0, _⟩ => ⟨S28, .i32⟩
  | .local _ .smem, ⟨1, _⟩ => ⟨S28, .i32⟩
  | .local _ .smem, ⟨2, _⟩ => ⟨S28, .i32⟩
  | .local _ .smem, ⟨3, _⟩ => ⟨S28, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_c_4 : Ref sig .tc := ⟨.hbm, 37, rfl⟩
abbrev main_v11 : Ref sig .tc := ⟨.hbm, 38, rfl⟩
abbrev main_v12 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v13 : Ref sig .tc := ⟨.hbm, 57, rfl⟩
abbrev main_c_6 : Ref sig .tc := ⟨.hbm, 58, rfl⟩
abbrev main_v14 : Ref sig .tc := ⟨.hbm, 59, rfl⟩
abbrev main_v15 : Ref sig .tc := ⟨.hbm, 60, rfl⟩
abbrev main_call3_call0_c : Ref sig .tc := ⟨.hbm, 61, rfl⟩
abbrev main_call3_call0_v0 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_7 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_call4_call0_v0 : Ref sig .tc := ⟨.hbm, 75, rfl⟩
abbrev main_call4_call0_v1 : Ref sig .tc := ⟨.hbm, 76, rfl⟩
abbrev main_call4_call0_v2 : Ref sig .tc := ⟨.hbm, 77, rfl⟩
abbrev main_call4_call0_v3 : Ref sig .tc := ⟨.hbm, 78, rfl⟩
abbrev main_call4_call0_v4 : Ref sig .tc := ⟨.hbm, 79, rfl⟩
abbrev main_call4_call0_v5 : Ref sig .tc := ⟨.hbm, 80, rfl⟩
abbrev main_call4_call0_c : Ref sig .tc := ⟨.hbm, 81, rfl⟩
abbrev main_v28 : Ref sig .tc := ⟨.hbm, 82, rfl⟩
abbrev main_c_8 : Ref sig .tc := ⟨.hbm, 83, rfl⟩
abbrev main_v29 : Ref sig .tc := ⟨.hbm, 84, rfl⟩
abbrev main_v30 : Ref sig .tc := ⟨.hbm, 85, rfl⟩
abbrev main_c_9 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_10 : Ref sig .tc := ⟨.hbm, 93, rfl⟩
abbrev main_v37 : Ref sig .tc := ⟨.hbm, 94, rfl⟩
abbrev main_v38 : Ref sig .tc := ⟨.hbm, 95, rfl⟩
abbrev main_c_11 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_12 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_c_13 : Ref sig .tc := ⟨.hbm, 106, rfl⟩
abbrev main_c_14 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_v47 : Ref sig .tc := ⟨.hbm, 113, rfl⟩
abbrev main_c_15 : Ref sig .tc := ⟨.hbm, 114, rfl⟩
abbrev main_call6_v0 : Ref sig .tc := ⟨.hbm, 115, rfl⟩
abbrev main_call6_v1 : Ref sig .tc := ⟨.hbm, 116, rfl⟩
abbrev main_c_16 : Ref sig .tc := ⟨.hbm, 117, rfl⟩
abbrev main_v49 : Ref sig .tc := ⟨.hbm, 118, rfl⟩
abbrev main_v50 : Ref sig .tc := ⟨.hbm, 119, rfl⟩
abbrev main_c_17 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_c_18 : Ref sig .tc := ⟨.hbm, 126, rfl⟩
abbrev main_v56 : Ref sig .tc := ⟨.hbm, 127, rfl⟩
abbrev main_v57 : Ref sig .tc := ⟨.hbm, 128, rfl⟩
abbrev main_c_19 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v63 : Ref sig .tc := ⟨.hbm, 133, rfl⟩
abbrev main_v27 : Ref sig .tc := ⟨.smem, 0, rfl⟩
abbrev main_v58 : Ref sig .tc := ⟨.smem, 1, rfl⟩
abbrev main_v48 : Ref sig .tc := ⟨.smem, 2, rfl⟩
abbrev main_v62 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 28], ![false, false, false]⟩

abbrev pre0 : Pipeline.Prefetch sig := ⟨4, ![main_v27.idx, main_v58.idx, main_v48.idx, main_v62.idx], fun | 0 => main_v27.names | 1 => main_v58.names | 2 => main_v48.names | 3 => main_v62.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_mult1 (pf : pre0.Contents (Elt F)) (i : grid0.Coords) : BitVec 32 :=
  let arg2 : BitVec 32 := BitVec.ofNat 32 (i 2).val
  let v0 : Index := Scalar.indexCast arg2
  let v1 : BitVec 32 := pf.atD 1 ![v0.toNat]
  v1

def k0_mult2 (i : grid0.Coords) : BitVec 32 :=
  let arg1 : BitVec 32 := BitVec.ofNat 32 (i 1).val
  let c2560_i32 : BitVec 32 := 2560#32
  let v3 : BitVec 32 := Scalar.muli arg1 c2560_i32
  v3
def k0_mult3 (pf : pre0.Contents (Elt F)) (i : grid0.Coords) : BitVec 32 :=
  let arg2 : BitVec 32 := BitVec.ofNat 32 (i 2).val
  let v0 : Index := Scalar.indexCast arg2
  let v1 : BitVec 32 := pf.atD 1 ![v0.toNat]
  v1

def k0_mult4 (i : grid0.Coords) : BitVec 32 :=
  let arg0 : BitVec 32 := BitVec.ofNat 32 (i 0).val
  let c1024_i32 : BitVec 32 := 1024#32
  let v3 : BitVec 32 := Scalar.muli arg0 c1024_i32
  v3
def k0_cond1 (v3 : BitVec 32) : BitVec 1 :=
  let c1_i32 : BitVec 32 := 1#32
  let v4 : BitVec 1 := Scalar.cmpi .eq v3 c1_i32
  let v5 : BitVec 32 := Scalar.extui v4
  let c0_i32 : BitVec 32 := 0#32
  let v6 : BitVec 1 := Scalar.cmpi .ne v5 c0_i32
  v6

def k0_cond2 (v1 : BitVec 32) : BitVec 1 :=
  let c512_i32 : BitVec 32 := 512#32
  let v7 : BitVec 1 := Scalar.cmpi .eq v1 c512_i32
  let v8 : BitVec 32 := Scalar.extui v7
  let c0_i32_0 : BitVec 32 := 0#32
  let v9 : BitVec 1 := Scalar.cmpi .ne v8 c0_i32_0
  v9

def k0_cond3 (v1 : BitVec 32) : BitVec 1 :=
  let c0_i32_1 : BitVec 32 := 0#32
  let v10 : BitVec 1 := Scalar.cmpi .sgt v1 c0_i32_1
  let c512_i32_2 : BitVec 32 := 512#32
  let v11 : BitVec 1 := Scalar.cmpi .slt v1 c512_i32_2
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S28.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S28) ![v0.toNat] S1.size (k0_off1_inb i)) numel1_S1
  let v2 : BitVec 32 := v1
  let c2560_i32 : BitVec 32 := 2560#32
  let v3 : BitVec 32 := Scalar.muli arg1 c2560_i32
  let v4 : BitVec 32 := v3
  let c0_i32 : BitVec 32 := 0#32
  ![v2.toNat, v4.toNat]

def cc0_transform_1 (k0_off1_inb : ∀ i : grid0.Coords, ∀ a, (k0_off1 i) a + S1.size a ≤ S28.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S28) ![v0.toNat] S1.size (k0_off1_inb i)) numel1_S1
  let v2 : BitVec 32 := v1
  let c1024_i32 : BitVec 32 := 1024#32
  let v3 : BitVec 32 := Scalar.muli arg0 c1024_i32
  let v4 : BitVec 32 := v3
  let c0_i32 : BitVec 32 := 0#32
  ![v2.toNat, v4.toNat]

def cc0_transform_2 (k0_off1_inb : ∀ i : grid0.Coords, ∀ a, (k0_off1 i) a + S1.size a ≤ S28.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S28) ![v0.toNat] S1.size (k0_off1_inb i)) numel1_S1
  let c0_i32 : BitVec 32 := 0#32
  ![v1.toNat, arg1.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2560x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceIdeal.lean ====
abbrev S3 : Shape := ⟨1, ![3]⟩
abbrev S13312x5120 : Shape := ⟨2, ![13312, 5120]⟩
abbrev S13312x8192 : Shape := ⟨2, ![13312, 8192]⟩
abbrev S_ : Shape := ⟨0, ![]⟩
abbrev S13312 : Shape := ⟨1, ![13312]⟩
abbrev S3x1 : Shape := ⟨2, ![3, 1]⟩
abbrev S1x13312 : Shape := ⟨2, ![1, 13312]⟩
abbrev S3x13312 : Shape := ⟨2, ![3, 13312]⟩
abbrev S3x13312x1 : Shape := ⟨3, ![3, 13312, 1]⟩
abbrev S1x13312x5120 : Shape := ⟨3, ![1, 13312, 5120]⟩
abbrev S3x13312x5120 : Shape := ⟨3, ![3, 13312, 5120]⟩
abbrev S3x5120x8192 : Shape := ⟨3, ![3, 5120, 8192]⟩

abbrev nBuf : Space → Nat
  | .hbm => 54
  | .vmem => 0
  | .smem => 0
  | _ => 0

abbrev bufTy : (tb : Table) → Fin (tcTables nBuf tb) → BufTy
  | .hbm, ⟨0, _⟩ => ⟨S3, .i32⟩
  | .hbm, ⟨1, _⟩ => ⟨S13312x5120, .bf16⟩
  | .hbm, ⟨2, _⟩ => ⟨S13312x8192, .bf16⟩
  | .hbm, ⟨3, _⟩ => ⟨S_, .i32⟩
  | .hbm, ⟨4, _⟩ => ⟨S3, .i32⟩
  | .hbm, ⟨5, _⟩ => ⟨S3, .i32⟩
  | .hbm, ⟨6, _⟩ => ⟨S_, .i32⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S3, .i32⟩
  | .hbm, ⟨11, _⟩ => ⟨S_, .i32⟩
  | .hbm, ⟨12, _⟩ => ⟨S3, .i32⟩
  | .hbm, ⟨13, _⟩ => ⟨S3, .i1⟩
  | .hbm, ⟨14, _⟩ => ⟨S3, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S3, .i1⟩
  | .hbm, ⟨19, _⟩ => ⟨S3, .i1⟩
  | .hbm, ⟨20, _⟩ => ⟨S_, .i32⟩
  | .hbm, ⟨21, _⟩ => ⟨S3, .i32⟩
  | .hbm, ⟨22, _⟩ => ⟨S3, .i32⟩
  | .hbm, ⟨23, _⟩ => ⟨S3, .i32⟩
  | .hbm, ⟨24, _⟩ => ⟨S_, .i32⟩
  | .hbm, ⟨25, _⟩ => ⟨S3, .i32⟩
  | .hbm, ⟨26, _⟩ => ⟨S3, .i32⟩
  | .hbm, ⟨27, _⟩ => ⟨S_, .i32⟩
  | .hbm, ⟨28, _⟩ => ⟨S_, .i32⟩
  | .hbm, ⟨29, _⟩ => ⟨S3, .i32⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S3, .i32⟩
  | .hbm, ⟨34, _⟩ => ⟨S13312, .i32⟩
  | .hbm, ⟨35, _⟩ => ⟨S3x1, .i32⟩
  | .hbm, ⟨36, _⟩ => ⟨S1x13312, .i32⟩
  | .hbm, ⟨37, _⟩ => ⟨S3x13312, .i32⟩
  | .hbm, ⟨38, _⟩ => ⟨S3x13312, .i32⟩
  | .hbm, ⟨39, _⟩ => ⟨S3x13312, .i1⟩
  | .hbm, ⟨40, _⟩ => ⟨S1x13312, .i32⟩
  | .hbm, ⟨41, _⟩ => ⟨S3x1, .i32⟩
  | .hbm, ⟨42, _⟩ => ⟨S3x13312, .i32⟩
  | .hbm, ⟨43, _⟩ => ⟨S3x13312, .i32⟩
  | .hbm, ⟨44, _⟩ => ⟨S3x13312, .i1⟩
  | .hbm, ⟨45, _⟩ => ⟨S3x13312, .i1⟩
  | .hbm, ⟨46, _⟩ => ⟨S3x13312x1, .i1⟩
  | .hbm, ⟨47, _⟩ => ⟨S1x13312x5120, .bf16⟩
  | .hbm, ⟨48, _⟩ => ⟨S_, .bf16⟩
  | .hbm, ⟨49, _⟩ => ⟨S3x13312x5120, .i1⟩
  | .hbm, ⟨50, _⟩ => ⟨S3x13312x5120, .bf16⟩
  | .hbm, ⟨51, _⟩ => ⟨S3x13312x5120, .bf16⟩
  | .hbm, ⟨52, _⟩ => ⟨S3x13312x5120, .bf16⟩
  | .hbm, ⟨53, _⟩ => ⟨S3x5120x8192, .f32⟩
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_1 : Ref sig .tc := ⟨.hbm, 24, rfl⟩
abbrev main_v3 : Ref sig .tc := ⟨.hbm, 25, rfl⟩
abbrev main_v4 : Ref sig .tc := ⟨.hbm, 26, rfl⟩
abbrev main_call1_call0_c : Ref sig .tc := ⟨.hbm, 27, rfl⟩
abbrev main_call1_call0_v0 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v23 : Ref sig .tc := ⟨.hbm, 52, rfl⟩
abbrev main_v24 : Ref sig .tc := ⟨.hbm, 53, rfl⟩

abbrev nD : Nat := 1
abbrev τ : Topo := Topo.v7x

variable {F : FTy → Type} [FloatOps F]
-- ==== Proof.Sched.lean ====
/- The visits of the grouped product as arithmetic on natural numbers: from the three groups' row counts (multiples of 32), which
   group a visit belongs to, its first row, how many rows it takes and whether it is the group's first. -/
module

public import Mathlib.Data.Nat.Notation
public import Mathlib.Tactic.SplitIfs

@[expose] public section

namespace Cert.Sched

/-- The three groups' row counts, each a multiple of 32, together at most 12384. -/
structure Rows where
  r0 : ℕ
  r1 : ℕ
  r2 : ℕ
  d0 : r0 % 32 = 0
  d1 : r1 % 32 = 0
  d2 : r2 % 32 = 0
  fits : r0 + r1 + r2 ≤ 12384

variable (R : Rows) (v e : ℕ)

/-- How many visits a group of `r` rows takes: its pieces of 512 rows, at least one. -/
def cnt (r : ℕ) : ℕ := max ((r + 511) / 512) 1
/-- How many visits there are that do work. -/
def total : ℕ := cnt R.r0 + cnt R.r1 + cnt R.r2
/-- The visit that visit `v` repeats: itself, or the last. -/
def vv : ℕ := min v (total R - 1)
/-- The group of visit `v`. -/
def ex : ℕ := if vv R v < cnt R.r0 then 0 else if vv R v < cnt R.r0 + cnt R.r1 then 1 else 2
/-- Group `e`'s row count. -/
def row : ℕ := if e = 0 then R.r0 else if e = 1 then R.r1 else R.r2
/-- Group `e`'s first row. -/
def start : ℕ := if e = 0 then 0 else if e = 1 then R.r0 else R.r0 + R.r1
/-- Group `e`'s first visit. -/
def base : ℕ := if e = 0 then 0 else if e = 1 then cnt R.r0 else cnt R.r0 + cnt R.r1
/-- Which of its group's visits `v` is. -/
def it : ℕ := vv R v - base R (ex R v)
/-- How many rows visit `v` takes. -/
def kk : ℕ := if v < total R then min (row R (ex R v) - 512 * it R v) 512 else 0
/-- Visit `v`'s first row. -/
def rr : ℕ := start R (ex R v) + 512 * it R v
/-- Whether visit `v` is its group's first. -/
def ff : ℕ := if v < total R ∧ it R v = 0 then 1 else 0
/-- How many of its group's rows have been taken after visit `v`. -/
def cov : ℕ := min (512 * (it R v + 1)) (row R (ex R v))

theorem ex_lt : ex R v < 3 := by
  unfold ex; split_ifs <;> omega

theorem kk_le : kk R v ≤ 512 := by
  unfold kk; split_ifs <;> omega

theorem rr_mod : rr R v % 32 = 0 := by
  have := R.d0; have := R.d1; have := R.d2
  unfold rr start; split_ifs <;> omega

theorem total_le : total R ≤ 27 := by
  have := R.fits
  unfold total cnt; omega

theorem total_pos : 3 ≤ total R := by
  unfold total cnt; omega

/-- Where the repeated visit lies among the three groups' visits. -/
theorem ex_cases : (ex R v = 0 ∧ vv R v < cnt R.r0) ∨ (ex R v = 1 ∧ cnt R.r0 ≤ vv R v ∧ vv R v < cnt R.r0 + cnt R.r1) ∨
    (ex R v = 2 ∧ cnt R.r0 + cnt R.r1 ≤ vv R v ∧ vv R v < cnt R.r0 + cnt R.r1 + cnt R.r2) := by
  have := total_pos R
  simp only [ex]
  split_ifs with h1 h2
  · exact Or.inl ⟨rfl, h1⟩
  · exact Or.inr (Or.inl ⟨rfl, by omega, h2⟩)
  · refine Or.inr (Or.inr ⟨rfl, by omega, ?_⟩)
    unfold vv; unfold total at *; omega

theorem row_0 : row R 0 = R.r0 := rfl
theorem row_1 : row R 1 = R.r1 := rfl
theorem row_2 : row R 2 = R.r2 := rfl
theorem start_0 : start R 0 = 0 := rfl
theorem start_1 : start R 1 = R.r0 := rfl
theorem start_2 : start R 2 = R.r0 + R.r1 := rfl
theorem base_0 : base R 0 = 0 := rfl
theorem base_1 : base R 1 = cnt R.r0 := rfl
theorem base_2 : base R 2 = cnt R.r0 + cnt R.r1 := rfl

theorem rr_le : rr R v ≤ 12384 := by
  have := R.fits
  simp only [rr]
  rcases ex_cases R v with ⟨h, h'⟩ | ⟨h, h'⟩ | ⟨h, h'⟩ <;> simp only [it, h, row_0, row_1, row_2, start_0, start_1, start_2, base_0, base_1, base_2] <;>
    simp only [vv, total, cnt] at * <;> omega

theorem ff_zero : ff R 0 = 1 := by
  have := total_pos R
  unfold ff; rw [if_pos]
  refine ⟨by omega, ?_⟩
  unfold it vv; omega

theorem ff_iff : ff R v = 1 ↔ v < total R ∧ it R v = 0 := by
  unfold ff; split_ifs with h
  · exact ⟨fun _ => h, fun _ => rfl⟩
  · exact ⟨fun h => absurd h (by decide), fun h' => absurd h' h⟩

theorem kk_eq : (v < total R ∧ kk R v = min (row R (ex R v) - 512 * it R v) 512) ∨ (total R ≤ v ∧ kk R v = 0) := by
  unfold kk; split_ifs with h
  · exact Or.inl ⟨h, rfl⟩
  · exact Or.inr ⟨by omega, rfl⟩

/-- The next visit is a group's first exactly if it belongs to another group. -/
theorem ff_succ : ff R (v + 1) = 1 ↔ ex R (v + 1) ≠ ex R v := by
  rw [ff_iff]
  rcases ex_cases R v with ⟨h, h'⟩ | ⟨h, h'⟩ | ⟨h, h'⟩ <;> rcases ex_cases R (v + 1) with ⟨g, g'⟩ | ⟨g, g'⟩ | ⟨g, g'⟩ <;>
    simp only [it, h, g, row_0, row_1, row_2, start_0, start_1, start_2, base_0, base_1, base_2] <;> simp only [vv, total, cnt] at * <;> omega

/-- At a group's last visit all its rows have been taken. -/
theorem cov_last (hl : v = 27 ∨ ex R (v + 1) ≠ ex R v) : cov R v = row R (ex R v) := by
  have := R.fits
  have hn := total_le R
  simp only [cov]
  rcases ex_cases R v with ⟨h, h'⟩ | ⟨h, h'⟩ | ⟨h, h'⟩ <;> rcases ex_cases R (v + 1) with ⟨g, g'⟩ | ⟨g, g'⟩ | ⟨g, g'⟩ <;>
    simp only [h, g, ne_eq, not_true_eq_false, or_false] at hl <;>
    simp only [it, h, row_0, row_1, row_2, start_0, start_1, start_2, base_0, base_1, base_2] <;> simp only [vv, total, cnt] at * <;> omega

/-- At a group's first visit the rows taken are the visit's. -/
theorem cov_first (hf : ff R v = 1) : cov R v = kk R v ∧ rr R v = start R (ex R v) := by
  rw [ff_iff] at hf
  simp only [kk, if_pos hf.1, cov, rr, hf.2]
  omega

/-- At a later visit the rows taken are those taken before and the visit's, which begin there. -/
theorem cov_succ (hf : ff R (v + 1) ≠ 1) :
    cov R (v + 1) = cov R v + kk R (v + 1) ∧ (0 < kk R (v + 1) → rr R (v + 1) = start R (ex R (v + 1)) + cov R v) := by
  have he : ex R (v + 1) = ex R v := Decidable.byContradiction fun h => hf ((ff_succ R v).mpr h)
  have hk := kk_eq R (v + 1)
  rw [Ne, ff_iff] at hf
  simp only [cov, rr]
  rw [he] at hk ⊢
  rcases ex_cases R v with ⟨h, h'⟩ | ⟨h, h'⟩ | ⟨h, h'⟩ <;>
    simp only [it, he, h, row_0, row_1, row_2, start_0, start_1, start_2, base_0, base_1, base_2] at hk hf ⊢ <;> generalize kk R (v + 1) = k at * <;>
    simp only [vv, total, cnt] at * <;> omega

/-- Every group has a last visit. -/
theorem exists_last (he : e < 3) : ∃ v, v < 28 ∧ ex R v = e ∧ (v = 27 ∨ ex R (v + 1) ≠ ex R v) := by
  have hn := total_le R
  have : e = 0 ∨ e = 1 ∨ e = 2 := by omega
  rcases this with rfl | rfl | rfl
  · have ha := ex_cases R (cnt R.r0 - 1)
    have hb := ex_cases R (cnt R.r0 - 1 + 1)
    refine ⟨cnt R.r0 - 1, ?_⟩
    simp only [vv, total, cnt] at *; omega
  · have ha := ex_cases R (cnt R.r0 + cnt R.r1 - 1)
    have hb := ex_cases R (cnt R.r0 + cnt R.r1 - 1 + 1)
    refine ⟨cnt R.r0 + cnt R.r1 - 1, ?_⟩
    simp only [vv, total, cnt] at *; omega
  · have ha := ex_cases R 27
    refine ⟨27, by omega, ?_, Or.inl rfl⟩
    simp only [vv, total, cnt] at ha hn; omega

theorem start_add_cov_le : start R (ex R v) + cov R v ≤ 12384 := by
  have := R.fits
  simp only [cov]
  rcases ex_cases R v with ⟨h, h'⟩ | ⟨h, h'⟩ | ⟨h, h'⟩ <;> simp only [it, h, row_0, row_1, row_2, start_0, start_1, start_2, base_0, base_1, base_2] <;>
    simp only [vv, total, cnt] at * <;> omega

end Cert.Sched
-- ==== Proof.Body.lean ====
/- One visit of the grouped product's kernel body: what it leaves in the output block, as a function of the two words of the
   tables it reads, the two staged blocks and what the output block held. -/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.FrameBody
public import Idealize.ShloMosaic.Lib.Pipeline.TableIdle
public import Idealize.ShloMosaic.Lib.VecWindow
public import Idealize.ShloMosaic.Lib.Writes
public import Idealize.ShloMosaic.Lib.Ring
public import Idealize.ShloMosaic.Lib.Affine
public import Idealize.ShloMosaic.Adequacy
public import Idealize.ShloMosaic.Init
public import Idealize.ShloMosaic.Lib.Exec
public import Idealize.ShloMosaic.Lib.Tactic

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts, whole. -/
abbrev tbE : Memref sig .tc .smem S28 .i32 := Memref.whole main_v27
/-- The table of first rows, whole. -/
abbrev tbR : Memref sig .tc .smem S28 .i32 := Memref.whole main_v58
/-- The table of row counts, whole. -/
abbrev tbK : Memref sig .tc .smem S28 .i32 := Memref.whole main_v48
/-- The table of first-visit marks, whole. -/
abbrev tbF : Memref sig .tc .smem S28 .i32 := Memref.whole main_v62

/-- The row count that the body reads at point `i`. -/
abbrev kw (T : S28.Idx → Elt F .i32) (i : grid0.Coords) : Elt F .i32 :=
  View.readAt (Elt F) tbK.view (Rect.unit (s := S28) (k0_off1 i) S1.size (k0_off1_inb i)).toLoadRect T (Shape.Idx.first (numel1_S1.symm ▸ Nat.one_pos))
/-- The first-visit mark that the body reads at point `i`. -/
abbrev fw (T : S28.Idx → Elt F .i32) (i : grid0.Coords) : Elt F .i32 :=
  View.readAt (Elt F) tbF.view (Rect.unit (s := S28) (k0_off1 i) S1.size (k0_off1_inb i)).toLoadRect T (Shape.Idx.first (numel1_S1.symm ▸ Nat.one_pos))

/-- What one visit leaves in the output block: cleared if the visit is the expert's first, then the product of the staged blocks
    added, whole or with the rows past the count masked. -/
def stepV (k f : Elt F .i32) (a : Vec F S512x2560 .bf16) (b : Vec F S512x1024 .bf16) (o : Vec F S1x2560x1024 .f32) :
    Vec F S1x2560x1024 .f32 :=
  let o1 := if k0_cond1 f = 1#1 then k0_pay1 else o
  let o2 := if k0_cond2 k = 1#1 then k0_pay2 o1 a b else o1
  if k0_cond3 k = 1#1 then k0_pay3 k a b o2 else o2

/-- A load of the whole output block after a store of the whole of it reads what was stored. -/
theorem cov9 (v : View sig .tc .vmem S1x2560x1024 .f32) (w : S1x2560x1024.Idx → Elt F .f32) (L : List (View.Piece (Elt F) S1x2560x1024 .f32)) :
    v.readCov (⟨(Rect.unit (s := S1x2560x1024) ![0, 0, 0] S1x2560x1024.size inb_S1x2560x1024_S1x2560x1024_0_0_0), w⟩ :: L) (Rect.unit (s := S1x2560x1024) ![0, 0, 0] S1x2560x1024.size inb_S1x2560x1024_S1x2560x1024_0_0_0).toLoadRect = w := View.readCov_full v _ _ w L
/-- The output block after a store of the whole of it is what was stored. -/
theorem put9 (v : View sig .tc .vmem S1x2560x1024 .f32) (f : v.ty.Contents (Elt F)) (w : S1x2560x1024.Idx → Elt F .f32) (L : List (View.Piece (Elt F) S1x2560x1024 .f32)) :
    v.read (Elt F) (v.writes (Elt F) f (⟨(Rect.unit (s := S1x2560x1024) ![0, 0, 0] S1x2560x1024.size inb_S1x2560x1024_S1x2560x1024_0_0_0), w⟩ :: L)) = w := View.read_writes_full v f _ w L
/-- A load of the whole output block. -/
theorem get9 (v : View sig .tc .vmem S1x2560x1024 .f32) (x : S1x2560x1024.Idx → Elt F .f32) :
    v.readAt (Elt F) (Rect.unit (s := S1x2560x1024) ![0, 0, 0] S1x2560x1024.size inb_S1x2560x1024_S1x2560x1024_0_0_0).toLoadRect (v.rep x) = x := View.readAt_rep_full v x _
/-- A load of the whole left block. -/
theorem get7 (v : View sig .tc .vmem S512x2560 .bf16) (x : S512x2560.Idx → Elt F .bf16) :
    v.readAt (Elt F) (Rect.unit (s := S512x2560) ![0, 0] S512x2560.size inb_S512x2560_S512x2560_0_0).toLoadRect (v.rep x) = x := View.readAt_rep_full v x _
/-- A load of the whole right block. -/
theorem get8 (v : View sig .tc .vmem S512x1024 .bf16) (x : S512x1024.Idx → Elt F .bf16) :
    v.readAt (Elt F) (Rect.unit (s := S512x1024) ![0, 0] S512x1024.size inb_S512x1024_S512x1024_0_0).toLoadRect (v.rep x) = x := View.readAt_rep_full v x _

set_option maxHeartbeats 8000000 in
/-- The body's triple: from the staged blocks, the tables and the output block at `o`, the body runs to the same with the
    output block at `stepV`. -/
theorem body_run (c : Dev nD) (i : grid0.Coords) (arg7 : Memref sig .tc .vmem S512x2560 .bf16) (harg7 : arg7.IsWhole)
    (arg8 : Memref sig .tc .vmem S512x1024 .bf16) (harg8 : arg8.IsWhole) (arg9 : Memref sig .tc .vmem S1x2560x1024 .f32) (harg9 : arg9.IsWhole)
    (T0 T1 T2 T3 : S28.Idx → Elt F .i32) (x0 : S512x2560.Idx → Elt F .bf16) (x1 : S512x1024.Idx → Elt F .bf16)
    (o : S1x2560x1024.Idx → Elt F .f32) (K : PUnit → sProp 𝕄) :
    iprop((arg7.view.loc (c : Thread nD τ) ↦[arg7.view.set]{fullShare} arg7.view.rep x0)
      ∗ (arg8.view.loc (c : Thread nD τ) ↦[arg8.view.set]{fullShare} arg8.view.rep x1)
      ∗ (tbE.view.loc (c : Thread nD τ) ↦{fullShare.right} T0)
      ∗ (tbR.view.loc (c : Thread nD τ) ↦{fullShare.right} T1)
      ∗ (tbK.view.loc (c : Thread nD τ) ↦{fullShare.right} T2)
      ∗ (tbF.view.loc (c : Thread nD τ) ↦{fullShare.right} T3)
      ∗ (arg9.view.loc (c : Thread nD τ) ↦[arg9.view.set]{fullShare} arg9.view.rep o)
      ∗ (iprop((arg7.view.loc (c : Thread nD τ) ↦[arg7.view.set]{fullShare} arg7.view.rep x0)
          ∗ (arg8.view.loc (c : Thread nD τ) ↦[arg8.view.set]{fullShare} arg8.view.rep x1)
          ∗ (tbE.view.loc (c : Thread nD τ) ↦{fullShare.right} T0)
          ∗ (tbR.view.loc (c : Thread nD τ) ↦{fullShare.right} T1)
          ∗ (tbK.view.loc (c : Thread nD τ) ↦{fullShare.right} T2)
          ∗ (tbF.view.loc (c : Thread nD τ) ↦{fullShare.right} T3)
          ∗ owns (c : Thread nD τ) arg9 fullShare (stepV (kw T2 i) (fw T3 i) x0 x1 o)) -∗ K ⟨⟩))
      ⊢ wp frame (wpE (defs₀ (F := F)) Variants.none c none) Set.univ
          (cc0_wgrad i tbE (Memref.isWhole_whole _) tbR (Memref.isWhole_whole _) tbK (Memref.isWhole_whole _) tbF (Memref.isWhole_whole _)
            arg7 harg7 arg8 harg8 arg9 harg9) K := by
  unfold owns
  rw [cc0_wgrad_eq_skeleton]; unfold cc0_wgrad_skel
  have hT0 : tbE.IsWhole := Memref.isWhole_whole _
  have hT1 : tbR.IsWhole := Memref.isWhole_whole _
  have hT2 : tbK.IsWhole := Memref.isWhole_whole _
  have hT3 : tbF.IsWhole := Memref.isWhole_whole _
  generalize hX : stepV (kw T2 i) (fw T3 i) x0 x1 o = X
  unfold stepV at hX
  by_cases h1 : k0_cond1 (fw T3 i) = 1#1 <;> by_cases h2 : k0_cond2 (kw T2 i) = 1#1 <;> by_cases h3 : k0_cond3 (kw T2 i) = 1#1
  all_goals
    simp only [h1, h2, h3, if_true, if_false] at hX
    iintro ⟨H0, H1, HT0, HT1, HT2, HT3, HO, Hk⟩
    sl_exec! (disch := first | exact h1 | exact h2 | exact h3)
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    iexists _; isplitr; swap
    · iexact HO
    · ipureintro
      sl_unfold_words
      first | rw [put9] | rw [View.read_rep]
      repeat first | rw [cov9] | rw [get7] | rw [get8] | rw [get9]
      exact hX

end Cert.KernelIdeal.Hand

end
-- ==== Proof.Tables.lean ====
/- The four prefetched tables as the schedule's words (`Sched`), and what the index maps, the body's conditions and the pipeline's
   write-backs come to at them. -/
module

public import proofs.«01_k».proof.Proof.Sched
public import proofs.«01_k».proof.Proof.Body
public import Idealize.ShloMosaic.Lib.Pipeline.TableIdle
public import Idealize.ShloMosaic.Lib.Affine

@[expose] public section

set_option maxRecDepth 16384

noncomputable section

namespace Cert.KernelIdeal.Hand

open Cert.KernelIdeal Cert.KernelIdeal.Gen Cert.Sched
open Idealize.ShloMosaic
open Idealize.ShloMosaic.TcCoe

variable {F : FTy → Type} [FloatOps F]

/-- A table of 28 words, from a function of the visit. -/
def tab (g : ℕ → ℕ) : S28.Idx → BitVec 32 := fun x => BitVec.ofNat 32 (g (x 0).val)

/-- The four tables of the schedule: groups, first rows, row counts, first-visit marks. -/
def pfR (R : Rows) : pre0.Contents (Elt F) := fun
  | 0 => tab (ex R)
  | 1 => tab (rr R)
  | 2 => tab (kk R)
  | 3 => tab (ff R)
  | ⟨_ + 4, h⟩ => absurd h (Nat.not_lt.2 (Nat.le_add_left _ _))

/-- A grid point's visit. -/
abbrev vis (i : grid0.Coords) : ℕ := (i 2).val

theorem vis_lt (i : grid0.Coords) : vis i < 28 := (i 2).isLt
theorem crd1_lt (i : grid0.Coords) : (i 1).val < 2 := (i 1).isLt
theorem crd0_lt (i : grid0.Coords) : (i 0).val < 8 := (i 0).isLt

theorem off1_eq (i : grid0.Coords) : k0_off1 i = ![vis i] := by
  have h := vis_lt i
  funext a
  fin_cases a
  show (Scalar.indexCast (BitVec.ofNat 32 (i 2).val)).toNat = vis i
  revert h; unfold vis; generalize (i 2).val = n
  intro h
  have : ∀ n : Fin 28, (Scalar.indexCast (BitVec.ofNat 32 n.val)).toNat = n.val := by decide
  exact this ⟨n, h⟩

/-- The word that an index map reads of a table. -/
theorem at_tab (g : ℕ → ℕ) (i : grid0.Coords) (h1) :
    tab g ((Rect.unit (s := S28) (k0_off1 i) S1.size (k0_off1_inb i)).emb (Shape.Idx.first h1)) = BitVec.ofNat 32 (g (vis i)) := by
  unfold tab
  congr 2
  show (k0_off1 i) 0 + 0 = vis i
  rw [off1_eq]; rfl

theorem kw_tab (g : ℕ → ℕ) (i : grid0.Coords) : kw (F := F) (tab g) i = BitVec.ofNat 32 (g (vis i)) := at_tab g i _
theorem fw_tab (g : ℕ → ℕ) (i : grid0.Coords) : fw (F := F) (tab g) i = BitVec.ofNat 32 (g (vis i)) := at_tab g i _

theorem atD_tab (g : ℕ → ℕ) (i : grid0.Coords) (d : BitVec 32) (off : Fin 1 → ℕ) (ho : off = ![vis i]) :
    (if h : ∀ a, off a + 1 ≤ S28.size a then tab g (fun a => ⟨off a, h a⟩) else d) = BitVec.ofNat 32 (g (vis i)) := by
  subst ho
  rw [dif_pos]
  · rfl
  · intro a; fin_cases a; exact vis_lt i

theorem atD0 (R : Rows) (i : grid0.Coords) : (pfR (F := F) R).atD 1 (k0_off1 i) = BitVec.ofNat 32 (rr R (vis i)) := atD_tab (rr R) i _ _ (off1_eq i)
theorem atD2 (R : Rows) (i : grid0.Coords) : (pfR (F := F) R).atD 2 (k0_off1 i) = BitVec.ofNat 32 (kk R (vis i)) := atD_tab (kk R) i _ _ (off1_eq i)
theorem atD3 (R : Rows) (i : grid0.Coords) : (pfR (F := F) R).atD 3 (k0_off1 i) = BitVec.ofNat 32 (ff R (vis i)) := atD_tab (ff R) i _ _ (off1_eq i)

theorem muli_toNat (a b : ℕ) (h : a * b < 2 ^ 32) : (Scalar.muli (BitVec.ofNat 32 a) (BitVec.ofNat 32 b)).toNat = a * b := by
  show (BitVec.ofNat 32 a * BitVec.ofNat 32 b).toNat = a * b
  rw [← BitVec.ofNat_mul, BitVec.toNat_ofNat, Nat.mod_eq_of_lt h]

/-- The left block's place: the visit's first row, the feature tile. -/
theorem tr0 (R : Rows) (i : grid0.Coords) :
    cc0_transform_0 k0_off1_inb numel1_S1 (pfR (F := F) R) i = ![rr R (vis i), (i 1).val * 2560] := by
  have h := rr_le R (vis i)
  have h1 := crd1_lt i
  funext a
  fin_cases a
  · refine (congrArg BitVec.toNat (at_tab (rr R) i (numel1_S1.symm ▸ Nat.one_pos))).trans ?_
    rw [BitVec.toNat_ofNat, Nat.mod_eq_of_lt (by omega)]; rfl
  · exact muli_toNat _ 2560 (by omega)

/-- The right block's place. -/
theorem tr1 (R : Rows) (i : grid0.Coords) :
    cc0_transform_1 k0_off1_inb numel1_S1 (pfR (F := F) R) i = ![rr R (vis i), (i 0).val * 1024] := by
  have h := rr_le R (vis i)
  have h1 := crd0_lt i
  funext a
  fin_cases a
  · refine (congrArg BitVec.toNat (at_tab (rr R) i (numel1_S1.symm ▸ Nat.one_pos))).trans ?_
    rw [BitVec.toNat_ofNat, Nat.mod_eq_of_lt (by omega)]; rfl
  · exact muli_toNat _ 1024 (by omega)

/-- The output block's place: the group and the two tiles. -/
theorem tr2 (R : Rows) (i : grid0.Coords) :
    cc0_transform_2 k0_off1_inb numel1_S1 (pfR (F := F) R) i = ![ex R (vis i), (i 1).val, (i 0).val] := by
  have h := ex_lt R (vis i)
  have h1 := crd1_lt i
  have h0 := crd0_lt i
  funext a
  fin_cases a
  · refine (congrArg BitVec.toNat (at_tab (ex R) i (numel1_S1.symm ▸ Nat.one_pos))).trans ?_
    rw [BitVec.toNat_ofNat, Nat.mod_eq_of_lt (by omega)]; rfl
  · show (BitVec.ofNat 32 (i 1).val).toNat = _
    rw [BitVec.toNat_ofNat, Nat.mod_eq_of_lt (by omega)]; rfl
  · show (BitVec.ofNat 32 (i 0).val).toNat = _
    rw [BitVec.toNat_ofNat, Nat.mod_eq_of_lt (by omega)]; rfl

theorem rr_dvd (R : Rows) (v : ℕ) : (32 : Int) ∣ (BitVec.ofNat 32 (rr R v)).toInt := by
  have h := rr_le R v
  have h' := rr_mod R v
  rw [BitVec.toInt_eq_toNat_of_lt (by rw [BitVec.toNat_ofNat]; omega), BitVec.toNat_ofNat]
  omega

/-- What the region checks of the tables holds of the schedule's. -/
theorem ok_pfR (R : Rows) : ok0 (pfR (F := F) R) := by
  refine ⟨fun i => ?_, fun i => ?_, fun i => ⟨?_, Or.inr ?_⟩, fun i => ⟨?_, Or.inr ?_⟩, fun i => ⟨?_, Or.inl rfl⟩⟩
  · rw [show k0_mult1 (pfR (F := F) R) i = _ from atD0 R i]; exact rr_dvd R _
  · rw [show k0_mult3 (pfR (F := F) R) i = _ from atD0 R i]; exact rr_dvd R _
  · rw [tr0]; have := rr_le R (vis i); have := crd1_lt i
    intro a; fin_cases a
    · show rr R (vis i) + 512 ≤ 13312; omega
    · show (i 1).val * 2560 + 2560 ≤ 5120; omega
  · refine Or.inl ?_
    have h2 := rr_mod R (vis i)
    refine Affine.packed_dvd (by decide) ?_ (by decide)
    show EltTy.packing .bf16 ∣ cc0_transform_0 k0_off1_inb numel1_S1 (pfR (F := F) R) i 0
    rw [tr0]; show 2 ∣ rr R (vis i); omega
  · rw [tr1]; have := rr_le R (vis i); have := crd0_lt i
    intro a; fin_cases a
    · show rr R (vis i) + 512 ≤ 13312; omega
    · show (i 0).val * 1024 + 1024 ≤ 8192; omega
  · refine Or.inl ?_
    have h2 := rr_mod R (vis i)
    refine Affine.packed_dvd (by decide) ?_ (by decide)
    show EltTy.packing .bf16 ∣ cc0_transform_1 k0_off1_inb numel1_S1 (pfR (F := F) R) i 0
    rw [tr1]; show 2 ∣ rr R (vis i); omega
  · rw [tr2]; have := ex_lt R (vis i); have := crd0_lt i; have := crd1_lt i
    intro a; fin_cases a
    · show (ex R (vis i) + 1) * 1 ≤ 3; omega
    · show ((i 1).val + 1) * 2560 ≤ 5120; omega
    · show ((i 0).val + 1) * 1024 ≤ 8192; omega

/-- The schedule's tables, admitted. -/
def admR (R : Rows) : (pcfg0 (F := F)).Adm := ⟨pfR R, ok_pfR R⟩
/-- The pipeline at them. -/
abbrev cfgR (F : FTy → Type) [FloatOps F] (R : Rows) : Pipeline.Cfg sig Λ₀ := cfg0 (F := F) (admR R)

end Cert.KernelIdeal.Hand

end
-- ==== Proof.Run.lean ====
/- The pipeline at the schedule's tables: when its output window is written back and when a visit leaves it alone, what the output
   block holds after every visit, the body's obligation, and the run of the whole program from what the host operations leave. -/
module

public import proofs.«01_k».proof.Proof.Tables
public import Idealize.ShloMosaic.Lib.Pipeline.Frame
public import Idealize.ShloMosaic.Lib.Pipeline.Quiescent

@[expose] public section

set_option maxRecDepth 16384
set_option Elab.async false

noncomputable section

namespace Cert.KernelIdeal.Hand

open Cert.KernelIdeal Cert.KernelIdeal.Gen Cert.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (R : Rows)

/-- Point `t`'s coordinates. -/
abbrev crd (t : Fin grid0.N) : grid0.Coords := grid0.coords t

theorem lt_448 (t : Fin grid0.N) : t.val < 448 := N_0 ▸ t.isLt

theorem crd2 (t : Fin grid0.N) : (crd t 2).val = t.val % 28 := by
  rw [Pipeline.Grid.coords_val t 2 (S := 1) (B := 28) (by decide) (by decide), Nat.div_one]
theorem crd1 (t : Fin grid0.N) : (crd t 1).val = t.val / 28 % 2 :=
  Pipeline.Grid.coords_val t 1 (S := 28) (B := 2) (by decide) (by decide)
theorem crd0 (t : Fin grid0.N) : (crd t 0).val = t.val / 56 := by
  rw [Pipeline.Grid.coords_val t 0 (S := 56) (B := 8) (by decide) (by decide)]
  have := lt_448 t; omega

/-- A visit at which the output block leaves: the last, or one whose successor belongs to another group. -/
abbrev Last (v : ℕ) : Prop := v = 27 ∨ ex R (v + 1) ≠ ex R v

theorem index2 (t : Fin grid0.N) : ((cfgR F R).win (2 : Fin 3)).index t = ![ex R (t.val % 28), t.val / 28 % 2, t.val / 56] := by
  show cc0_transform_2 k0_off1_inb numel1_S1 (pfR (F := F) R) (crd t) = _
  rw [tr2, crd1, crd0, show vis (crd t) = t.val % 28 from crd2 t]

/-- The output block is written back at a group's last visit. -/
theorem flush_iff (t : Fin grid0.N) : ((cfgR F R).win (2 : Fin 3)).flush t = true ↔ Last R (t.val % 28) := by
  have ht := lt_448 t
  unfold Window.flush
  rw [show ((cfgR F R).win (2 : Fin 3)).isOut = true from rfl, Bool.true_and, Bool.or_eq_true, decide_eq_true_iff, decide_eq_true_iff]
  have hN : (cfgR F R).grid.N = 448 := N_0
  constructor
  · rintro (h | ⟨h, hne⟩)
    · left; omega
    · rw [index2, index2] at hne
      by_contra hc
      rw [Last, not_or, not_not] at hc
      apply hne
      show ![ex R ((t.val + 1) % 28), (t.val + 1) / 28 % 2, (t.val + 1) / 56] = _
      rw [show (t.val + 1) % 28 = t.val % 28 + 1 by omega, hc.2, show (t.val + 1) / 28 % 2 = t.val / 28 % 2 by omega,
        show (t.val + 1) / 56 = t.val / 56 by omega]
  · intro h
    by_cases hl : t.val + 1 = (cfgR F R).grid.N
    · exact Or.inl hl
    · refine Or.inr ⟨by omega, fun he => ?_⟩
      rw [index2, index2] at he
      have e0 := congrFun he 0
      have e1 := congrFun he 1
      have e2 := congrFun he 2
      change ex R ((t.val + 1) % 28) = ex R (t.val % 28) at e0
      change (t.val + 1) / 28 % 2 = t.val / 28 % 2 at e1
      change (t.val + 1) / 56 = t.val / 56 at e2
      rcases h with h | h
      · omega
      · rw [show (t.val + 1) % 28 = t.val % 28 + 1 by omega] at e0
        exact h e0

theorem cond1_iff (v : ℕ) : k0_cond1 (BitVec.ofNat 32 (ff R v)) = 1#1 ↔ ff R v = 1 := by
  have : ff R v = 0 ∨ ff R v = 1 := by unfold ff; split_ifs <;> simp
  rcases this with h | h <;> rw [h] <;> decide

theorem cond2_nat : ∀ k : Fin 513, k0_cond2 (BitVec.ofNat 32 k.val) = 1#1 ↔ k.val = 512 := by decide +kernel
theorem cond3_nat : ∀ k : Fin 513, k0_cond3 (BitVec.ofNat 32 k.val) = 1#1 ↔ 0 < k.val ∧ k.val < 512 := by decide +kernel
theorem cond2_iff (v : ℕ) : k0_cond2 (BitVec.ofNat 32 (kk R v)) = 1#1 ↔ kk R v = 512 := cond2_nat ⟨kk R v, Nat.lt_succ_of_le (kk_le R v)⟩
theorem cond3_iff (v : ℕ) : k0_cond3 (BitVec.ofNat 32 (kk R v)) = 1#1 ↔ 0 < kk R v ∧ kk R v < 512 :=
  cond3_nat ⟨kk R v, Nat.lt_succ_of_le (kk_le R v)⟩

/-- A visit leaves the output block alone if it is not its group's first and takes no row. -/
theorem idle_iff (t : Fin grid0.N) :
    (cfgR F R).idle (2 : Fin 3) (crd t) = true ↔ ff R (t.val % 28) ≠ 1 ∧ kk R (t.val % 28) = 0 := by
  show (!(k0_cond1 ((pfR (F := F) R).atD 3 (k0_off1 (crd t))) == 1#1) && !(k0_cond2 ((pfR (F := F) R).atD 2 (k0_off1 (crd t))) == 1#1)
    && !(k0_cond3 ((pfR (F := F) R).atD 2 (k0_off1 (crd t))) == 1#1)) = true ↔ _
  rw [atD2, atD3, show vis (crd t) = t.val % 28 from crd2 t]
  have hk := kk_le R (t.val % 28)
  simp only [Bool.and_eq_true, Bool.not_eq_true', beq_eq_false_iff_ne, ne_eq, cond1_iff, cond2_iff, cond3_iff]
  omega

/-- The output block holds nothing stored exactly at a group's first visit. -/
theorem fresh_eq (n : ℕ) (hn : n < 448) : (cfgR F R).fresh (2 : Fin 3) n = decide (ff R (n % 28) = 1) := by
  have h := Pipeline.Cfg.fresh_tab (cfgR F R) (2 : Fin 3) (fun n => decide (ff R (n % 28) = 1)) (by simp [ff_zero]) (fun t => ?_) n
    (by rw [show (cfgR F R).N = 448 from N_0]; omega)
  · exact h
  · rw [Bool.eq_iff_iff, Bool.or_eq_true, Bool.and_eq_true, decide_eq_true_iff, decide_eq_true_iff]
    rw [show ((cfgR F R).win (2 : Fin 3)).flush t = true ↔ _ from flush_iff R t]
    rw [show (cfgR F R).idle (2 : Fin 3) ((cfgR F R).grid.coords t) = true ↔ _ from idle_iff R t]
    unfold Last
    by_cases h27 : t.val % 28 = 27
    · rw [show (t.val + 1) % 28 = 0 by omega]
      exact ⟨fun _ => Or.inl (Or.inl h27), fun _ => ff_zero R⟩
    · rw [show (t.val + 1) % 28 = t.val % 28 + 1 by omega, ff_succ]
      constructor
      · exact fun h => Or.inl (Or.inr h)
      · rintro ((h | h) | h)
        · exact absurd h h27
        · exact h
        · exact absurd h.2 h.1.1

/-! ## The output block after each visit -/

/-- The contents of the unscoped buffers when the pipeline begins. -/
abbrev Mem (F : FTy → Type) [FloatOps F] := (c : Dev nD) → (b : Ref sig .tc) → Buf (Elt F) ((c.tc : Thread nD τ).loc b)

variable (V : Mem F)

/-- The left block of point `t`. -/
def blkA (c : Dev nD) (t : Fin grid0.N) : S512x2560.Idx → Elt F .bf16 :=
  (((cfgR F R).win (0 : Fin 3)).blk t).view.read (Elt F) (V c (Pipeline.arrRef (cfgR F R).spec (0 : Fin 3)))
/-- The right block of point `t`. -/
def blkB (c : Dev nD) (t : Fin grid0.N) : S512x1024.Idx → Elt F .bf16 :=
  (((cfgR F R).win (1 : Fin 3)).blk t).view.read (Elt F) (V c (Pipeline.arrRef (cfgR F R).spec (1 : Fin 3)))

/-- What visit `t` makes of the output block. -/
def step (c : Dev nD) (t : Fin grid0.N) (o : S1x2560x1024.Idx → Elt F .f32) : S1x2560x1024.Idx → Elt F .f32 :=
  stepV (BitVec.ofNat 32 (kk R (t.val % 28))) (BitVec.ofNat 32 (ff R (t.val % 28))) (blkA R V c t) (blkB R V c t) o

/-- The output block after point `n`. -/
def traj (c : Dev nD) : (n : ℕ) → n < grid0.N → S1x2560x1024.Idx → Elt F .f32
  | 0, h => step R V c ⟨0, h⟩ k0_pay1
  | n + 1, h => step R V c ⟨n + 1, h⟩ (traj c n (Nat.lt_of_succ_lt h))

/-- The output block before point `t`. -/
def prev (c : Dev nD) (t : Fin grid0.N) : S1x2560x1024.Idx → Elt F .f32 :=
  if h : t.val = 0 then k0_pay1 else traj R V c (t.val - 1) (by have := t.isLt; omega)

theorem traj_eq (c : Dev nD) (t : Fin grid0.N) : traj R V c t.val t.isLt = step R V c t (prev R V c t) := by
  obtain ⟨n, hn⟩ := t
  cases n with
  | zero => rfl
  | succ n => unfold prev; simp only [Nat.add_one_ne_zero, dif_neg, not_false_eq_true]; rfl

/-- A group's first visit does not look at what the output block held. -/
theorem step_first (c : Dev nD) (t : Fin grid0.N) (h : ff R (t.val % 28) = 1) (o o') : step R V c t o = step R V c t o' := by
  unfold step stepV
  simp only [(cond1_iff R (t.val % 28)).mpr h, if_true]

/-- An idle visit changes nothing. -/
theorem step_idle (c : Dev nD) (t : Fin grid0.N) (h : ff R (t.val % 28) ≠ 1 ∧ kk R (t.val % 28) = 0) (o) : step R V c t o = o := by
  unfold step stepV
  have h1 : ¬ k0_cond1 (BitVec.ofNat 32 (ff R (t.val % 28))) = 1#1 := fun h' => h.1 ((cond1_iff R _).mp h')
  have h2 : ¬ k0_cond2 (BitVec.ofNat 32 (kk R (t.val % 28))) = 1#1 := fun h' => by have := (cond2_iff R _).mp h'; omega
  have h3 : ¬ k0_cond3 (BitVec.ofNat 32 (kk R (t.val % 28))) = 1#1 := fun h' => by have := (cond3_iff R _).mp h'; omega
  simp only [if_neg h1, if_neg h2, if_neg h3]

/-! ## The pipeline's proof data -/

/-- The proof data on core `c`: the arrays as they are when the pipeline begins, and what each window's buffer holds after a point. -/
def dats (_ : Fin 1) (c : Dev nD) : Dat τ (Elt F) Unit ℕ (UR sig nD τ) ℕ (cfgR F R) c where
  A w := V c (Pipeline.arrRef (cfgR F R).spec w)
  after w t := match w with
    | ⟨0, _⟩ => blkA R V c t
    | ⟨1, _⟩ => blkB R V c t
    | ⟨2, _⟩ => traj R V c t.val t.isLt
  Φ _ := iprop(Pipeline.ΦA (cfgR F R).spec c ∗ Pipeline.ΦT pre0 (pfR (F := F) R) c)
  q _ := fullShare
  owed _ := 0

theorem after_0 (c : Dev nD) (t : Fin grid0.N) : (dats R V 0 c).after (0 : Fin 3) t = blkA R V c t := rfl
theorem after_1 (c : Dev nD) (t : Fin grid0.N) : (dats R V 0 c).after (1 : Fin 3) t = blkB R V c t := rfl
theorem after_2 (c : Dev nD) (t : Fin grid0.N) : (dats R V 0 c).after (2 : Fin 3) t = traj R V c t.val t.isLt := rfl

theorem before_0 (c : Dev nD) (t : Fin grid0.N) (d) : (dats R V 0 c).before (0 : Fin 3) t d = blkA R V c t :=
  ((dats R V 0 c).before_in_eq_fetched (0 : Fin 3) rfl (fun _ => rfl) (fun _ _ _ => rfl) (fun t => by rw [after_0]; unfold Dat.blockOf blkA; rfl) t d).trans
    (by unfold Dat.fetched Dat.blockOf blkA; rfl)
theorem before_1 (c : Dev nD) (t : Fin grid0.N) (d) : (dats R V 0 c).before (1 : Fin 3) t d = blkB R V c t :=
  ((dats R V 0 c).before_in_eq_fetched (1 : Fin 3) rfl (fun _ => rfl) (fun _ _ _ => rfl) (fun t => by rw [after_1]; unfold Dat.blockOf blkB; rfl) t d).trans
    (by unfold Dat.fetched Dat.blockOf blkB; rfl)

theorem carry_2 (c : Dev nD) : ∀ (t : Fin (cfgR F R).N) (ht : t.val ≠ 0), (cfgR F R).idle (2 : Fin 3) ((cfgR F R).grid.coords t) = true →
    (cfgR F R).fresh (2 : Fin 3) t.val = false →
    (dats R V 0 c).after (2 : Fin 3) t = (dats R V 0 c).after (2 : Fin 3) ⟨t.val - 1, by omega⟩ := by
  intro t ht hi _
  rw [after_2, after_2, traj_eq, step_idle R V c t ((idle_iff R t).mp hi)]
  unfold prev; rw [dif_neg ht]

/-- What the output window's buffer holds when the body runs: anything at a group's first visit, else what the visit before left. -/
theorem before_2 (c : Dev nD) (t : Fin grid0.N) (d) :
    (dats R V 0 c).before (2 : Fin 3) t d = if ff R (t.val % 28) = 1 then d else prev R V c t := by
  rw [(dats R V 0 c).before_out_traj (2 : Fin 3) rfl (fun _ _ => rfl) (carry_2 R V c) t.val t rfl d, fresh_eq R t.val (lt_448 t)]
  by_cases hf : ff R (t.val % 28) = 1
  · simp only [hf, decide_true, if_true]
  · have h0 : t.val ≠ 0 := fun h0 => hf (by rw [h0]; exact ff_zero R)
    simp only [hf, decide_false, if_false, after_2, Bool.false_eq_true]; unfold prev; rw [dif_neg h0]

/-- What the body leaves is what the proof data says, whatever the buffer held. -/
theorem step_before (c : Dev nD) (t : Fin grid0.N) (d) :
    step R V c t ((dats R V 0 c).before (2 : Fin 3) t d) = traj R V c t.val t.isLt := by
  rw [before_2, traj_eq]
  split_ifs with h
  · exact step_first R V c t h _ _
  · rfl

/-! ## The body's obligation -/

abbrev ms0 (t : Fin grid0.N) : Memref sig .tc .vmem S512x2560 .bf16 := spec0_0.stage ((cfgR F R).slots t (0 : Fin 3))
abbrev hs0 (t : Fin grid0.N) : (ms0 (F := F) R t).IsWhole := hstage0_0 (((cfgR F R).slots t (0 : Fin 3)).cast nbuf0_0)
abbrev ms1 (t : Fin grid0.N) : Memref sig .tc .vmem S512x1024 .bf16 := spec0_1.stage ((cfgR F R).slots t (1 : Fin 3))
abbrev hs1 (t : Fin grid0.N) : (ms1 (F := F) R t).IsWhole := hstage0_1 (((cfgR F R).slots t (1 : Fin 3)).cast nbuf0_1)
abbrev ms2 (t : Fin grid0.N) : Memref sig .tc .vmem S1x2560x1024 .f32 := spec0_2.stage ((cfgR F R).slots t (2 : Fin 3))
abbrev hs2 (t : Fin grid0.N) : (ms2 (F := F) R t).IsWhole := hstage0_2 (((cfgR F R).slots t (2 : Fin 3)).cast nbuf0_2)

/-- The four tables one by one. -/
theorem tables_eq (c : Dev nD) (q : Fin 4 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v27) ↦{q 0} v 0) ∗ (((c : Thread nD τ).loc main_v58) ↦{q 1} v 1) ∗ (((c : Thread nD τ).loc main_v48) ↦{q 2} v 2) ∗ (((c : Thread nD τ).loc main_v62) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The body at point `t`, as the pipeline calls it. -/
abbrev bodyAt (t : Fin grid0.N) : Prog (TpuEff nD τ sig (Elt F) Λ₀ .tc) PUnit :=
  cc0_wgrad (crd t) tbE (Memref.isWhole_whole _) tbR (Memref.isWhole_whole _) tbK (Memref.isWhole_whole _) tbF (Memref.isWhole_whole _)
    (ms0 (F := F) R t) (hs0 (F := F) R t) (ms1 (F := F) R t) (hs1 (F := F) R t) (ms2 (F := F) R t) (hs2 (F := F) R t)

/-- The output block as the run leaves it is what the obligation asks of the output window, idle or not, written back or not. -/
theorem out_post (c : Dev nD) (t : Fin grid0.N) :
    (owns (c : Thread nD τ) (ms2 (F := F) R t) fullShare (traj R V c t.val t.isLt) : sProp 𝕄) ⊢
      (match (cfgR F R).idle (2 : Fin 3) ((cfgR F R).grid.coords t) with
        | true =>
          match ((cfgR F R).win (2 : Fin 3)).flush t with
          | false => iprop(∃ d, owns (c : Thread nD τ) (((cfgR F R).win (2 : Fin 3)).stage ((cfgR F R).slots t (2 : Fin 3))) fullShare ((dats R V 0 c).before (2 : Fin 3) t d))
          | true => owns (c : Thread nD τ) (((cfgR F R).win (2 : Fin 3)).stage ((cfgR F R).slots t (2 : Fin 3))) fullShare (traj R V c t.val t.isLt)
        | false => owns (c : Thread nD τ) (((cfgR F R).win (2 : Fin 3)).stage ((cfgR F R).slots t (2 : Fin 3))) fullShare (traj R V c t.val t.isLt)) := by
  rcases hi : (cfgR F R).idle (2 : Fin 3) ((cfgR F R).grid.coords t) with _ | _
  · exact .rfl
  · rcases hf : ((cfgR F R).win (2 : Fin 3)).flush t with _ | _
    · have e : (dats R V 0 c).before (2 : Fin 3) t k0_pay1 = traj R V c t.val t.isLt := by
        rw [← step_before R V c t k0_pay1, step_idle R V c t ((idle_iff R t).mp hi)]
      iintro H
      iexists k0_pay1
      rw [e]
      iexact H
    · exact .rfl

set_option maxHeartbeats 4000000 in
/-- The body at point `t`: from the windows' buffers to the same with the output block at `traj`. -/
theorem sound_body (c : Dev nD) (t : Fin grid0.N) :
    iprop((dats R V 0 c).Φ t.castSucc ∗ (dats R V 0 c).owesAt () t.castSucc
        ∗ (∃ d, owns (c : Thread nD τ) (ms0 (F := F) R t) fullShare ((dats R V 0 c).before (0 : Fin 3) t d))
        ∗ (∃ d, owns (c : Thread nD τ) (ms1 (F := F) R t) fullShare ((dats R V 0 c).before (1 : Fin 3) t d))
        ∗ (∃ d, owns (c : Thread nD τ) (ms2 (F := F) R t) fullShare ((dats R V 0 c).before (2 : Fin 3) t d)))
      ⊢ wp frame (wpE (defs₀ (F := F)) Variants.none c none) Set.univ (bodyAt (F := F) R t) fun _ =>
          iprop((dats R V 0 c).Φ t.succ ∗ (dats R V 0 c).owesAt () t.succ
            ∗ bigSep Finset.univ fun w : Fin (cfgR F R).W =>
                match (cfgR F R).idle w ((cfgR F R).grid.coords t) with
                | true =>
                  match ((cfgR F R).win w).flush t with
                  | false => iprop(∃ d, owns (c : Thread nD τ) (((cfgR F R).win w).stage ((cfgR F R).slots t w)) fullShare ((dats R V 0 c).before w t d))
                  | true => owns (c : Thread nD τ) (((cfgR F R).win w).stage ((cfgR F R).slots t w)) fullShare ((dats R V 0 c).after w t)
                | false => owns (c : Thread nD τ) (((cfgR F R).win w).stage ((cfgR F R).slots t w)) fullShare ((dats R V 0 c).after w t)) := by
  rw [bigSep_W0]
  simp only [before_0, before_1, after_0, after_1, after_2]
  rewrite [show (dats R V 0 c).Φ t.succ = iprop(Pipeline.ΦA (cfgR F R).spec c ∗ Pipeline.ΦT pre0 (pfR (F := F) R) c) from rfl,
    show (dats R V 0 c).Φ t.castSucc = iprop(Pipeline.ΦA (cfgR F R).spec c ∗ Pipeline.ΦT pre0 (pfR (F := F) R) c) from rfl,
    show (dats R V 0 c).owesAt () t.succ = (dats R V 0 c).owesAt () t.castSucc from rfl]
  unfold Pipeline.ΦT
  rw [tables_eq]
  have hrun : ∀ d, stepV (kw (F := F) (tab (kk R)) (crd t)) (fw (F := F) (tab (ff R)) (crd t)) (blkA R V c t) (blkB R V c t)
      ((dats R V 0 c).before (2 : Fin 3) t d) = traj R V c t.val t.isLt := fun d => by
    rw [kw_tab, fw_tab, show vis (crd t) = t.val % 28 from crd2 t]
    exact step_before R V c t d
  iintro ⟨⟨HA, HT0, HT1, HT2, HT3⟩, Ho, ⟨%d0, H0⟩, ⟨%d1, H1⟩, ⟨%d2, H2⟩⟩
  iapply (body_run c (crd t) (ms0 (F := F) R t) (hs0 (F := F) R t) (ms1 (F := F) R t) (hs1 (F := F) R t) (ms2 (F := F) R t) (hs2 (F := F) R t)
    (tab (ex R)) (tab (rr R)) (tab (kk R)) (tab (ff R)) (blkA R V c t) (blkB R V c t) ((dats R V 0 c).before (2 : Fin 3) t d2))
  isplitl [H0]; · iapply rep_of_owns; iexact H0
  isplitl [H1]; · iapply rep_of_owns; iexact H1
  isplitl [HT0]; · iexact HT0
  isplitl [HT1]; · iexact HT1
  isplitl [HT2]; · iexact HT2
  isplitl [HT3]; · iexact HT3
  isplitl [H2]; · iapply rep_of_owns; iexact H2
  rw [hrun d2]
  iintro ⟨H0, H1, HT0, HT1, HT2, HT3, H2⟩
  isplitl [HA HT0 HT1 HT2 HT3]
  · isplitl [HA]
    · iexact HA
    isplitl [HT0]
    · iexact HT0
    isplitl [HT1]
    · iexact HT1
    isplitl [HT2]
    · iexact HT2
    iexact HT3
  isplitl [Ho]; · iexact Ho
  isplitl [H0]
  · iapply owns_of_rep; iexact H0
  isplitl [H1]
  · iapply owns_of_rep; iexact H1
  iapply (out_post R V c t); iexact H2

/-- The body's obligation at every point. -/
theorem body_obligation (c : Dev nD) : BodyObligation (dats R V 0 c) (defs₀ (F := F)) Variants.none () Set.univ := fun t => by
  rw [bigSep_W0]
  exact sound_body R V c t

/-- Every window's array is held whole. -/
theorem share_eq (c : Dev nD) (w : Fin (cfgR F R).W) : (dats R V 0 c).share w = fullShare := by unfold Dat.share; split <;> rfl

/-- The fifteen stretches of host operations before the pipeline. -/
abbrev stretches (F : FTy → Type) [FloatOps F] : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14]

/-- What the buffers hold after the host operations. -/
def hostV (m : (ℓ : Loc nD τ sig) → Buf (Elt F) ℓ) : Mem F :=
  fun c b => StableHlo.after (stretches F).flatten (fun b => m (c, b)) b

theorem stretches_sub : (stretches F).Forall fun ops => ops.Forall fun op => op.bufs ⊆ StableHlo.tcRefs τ sig := by
  exact ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub⟩

theorem stretches_fresh : (stretches F).Forall fun ops => ops.Forall fun op => op.fresh = ∅ := by
  refine ⟨?_, ?_, ?_, ?_, ?_, ?_, ?_, ?_, ?_, ?_, ?_, ?_, ?_, ?_, ?_⟩ <;> repeat' constructor

variable (m : (ℓ : Loc nD τ sig) → Buf (Elt F) ℓ) (ρ : Dev nD → PrngReg)

set_option backward.isDefEq.respectTransparency.types false in
/-- The run of the whole program: if the host operations leave the schedule's tables, every array ends at what the proof data says,
    every other buffer at what the host operations left, and every counter at zero. -/
theorem run_main (hT : ∀ c k, hostV m c (pre0.ref k) = pfR (F := F) R k) :
    θ_run (defs (F := F)) (onTc (τ := τ) (main (F := F))) ⟨m, fun _ => 0, ρ⟩
      (fun r => Pipeline.FramePost (Pipeline.pin (pcfgs (F := F)) fun _ => admR R) (dats R (hostV m)) 0 (hostV m) r ∧ r.2.sem = fun _ => 0) :=
  Pipeline.θ_run_frameP (pcfgs (F := F)) (fun _ => admR R) (dats R (hostV m)) 0 launch0 defs₀ Variants.none m ρ main
    (hbody := fun c => (body_obligation R (hostV m) c).loose)
    (hshare := share_eq R (hostV m)) (howed := fun _ _ => rfl) (V := hostV m)
    (hmain := Pipeline.hmainP_prefixes pcfgs 0 defs₀ Variants.none m main (stretches F) stretches_sub stretches_fresh main_chain)
    (hA := fun _ _ => rfl) (hpf := hT) (hΦ := fun _ _ => rfl)
    (Q' := fun r => Pipeline.FramePost (Pipeline.pin (pcfgs (F := F)) fun _ => admR R) (dats R (hostV m)) 0 (hostV m) r ∧ r.2.sem = fun _ => 0)
    (hQ' := fun _ h => h)

end Cert.KernelIdeal.Hand

end
-- ==== Proof.Words.lean ====
/- Host operations on words that hold natural numbers: the rounded division, the running sum, the count of a search and the
   lookup in a table of three. -/
module

public import Idealize.ShloMosaic.Lib.Routing.OpsSearch
public import Idealize.ShloMosaic.Lib.Routing.OpsOne
public import proofs.«01_k».proof.Proof.Sched

@[expose] public section

noncomputable section

namespace Cert.Words

open Idealize.ShloMosaic Idealize.ShloMosaic.ValueIdx Idealize.ShloMosaic.WordCmp
open Idealize.ShloMosaic.Routing (shape0 shape1 shape2 msb_ofNat32 ofNat32_ne_zero divsi_word remsi_word)

/-- A vector of words, from a function of the position. -/
def wv {n : ℕ} (g : ℕ → ℕ) : (shape1 n).Idx → BitVec 32 := fun x => BitVec.ofNat 32 (g (x 0).val)

/-- The quotient rounded down, as it is printed, of the words of two natural numbers. -/
theorem fdiv_word {a b : ℕ} (ha : a < 2 ^ 31) (h0 : 0 < b) (hb : b < 2 ^ 31) :
    Scalar.select
      (IntOp.andi
        (IntOp.cmpi CmpIPredicate.ne
          (if BitVec.ofNat 32 a = 0 then 0 else if BitVec.msb (BitVec.ofNat 32 a) = true then -1 else 1)
          (if BitVec.ofNat 32 b = 0 then (0 : BitVec 32) else if BitVec.msb (BitVec.ofNat 32 b) = true then -1 else 1))
        (IntOp.cmpi CmpIPredicate.ne (IntOp.remsi ArithUnit.host (BitVec.ofNat 32 a) (BitVec.ofNat 32 b)) 0#32))
      (IntOp.subi (IntOp.divsi ArithUnit.host (BitVec.ofNat 32 a) (BitVec.ofNat 32 b)) 1#32)
      (IntOp.divsi ArithUnit.host (BitVec.ofNat 32 a) (BitVec.ofNat 32 b)) = BitVec.ofNat 32 (a / b) := by
  simp only [remsi_word .host ha h0 hb, divsi_word .host ha h0 hb, msb_ofNat32 ha, msb_ofNat32 hb,
    if_neg (ofNat32_ne_zero h0 (show b < 2 ^ 32 by omega))]
  rcases Nat.eq_zero_or_pos a with h | h
  · subst h
    simp only [Nat.zero_mod, Nat.zero_div]
    rfl
  · rw [if_neg (ofNat32_ne_zero h (show a < 2 ^ 32 by omega))]
    simp only [Bool.false_eq_true, if_false]
    have e : IntOp.cmpi .ne (1 : BitVec 32) 1 = 0#1 := by decide
    rw [e]
    show Scalar.select (0#1 &&& _) _ _ = _
    rw [BitVec.zero_and]
    rfl

/-- A difference of words that does not go below zero. -/
theorem sub_word {a b : ℕ} (h : b ≤ a) : IntOp.subi (BitVec.ofNat 32 a) (BitVec.ofNat 32 b) = BitVec.ofNat 32 (a - b) := by
  show BitVec.ofNat 32 a - BitVec.ofNat 32 b = _
  have e : BitVec.ofNat 32 a = BitVec.ofNat 32 (a - b) + BitVec.ofNat 32 b := by rw [← BitVec.ofNat_add]; congr 1; omega
  rw [e, BitVec.add_sub_cancel]

theorem max_word {a b : ℕ} (ha : a < 2 ^ 31) (hb : b < 2 ^ 31) :
    IntOp.maxsi (BitVec.ofNat 32 a) (BitVec.ofNat 32 b) = BitVec.ofNat 32 (max a b) := by
  have h1 := toInt_ofNat_of_lt (w := 32) ha
  have h2 := toInt_ofNat_of_lt (w := 32) hb
  unfold IntOp.maxsi
  simp only [BitVec.slt, BitVec.sle, h1, h2, decide_eq_true_eq]
  split_ifs <;> congr 1 <;> omega

theorem min_word {a b : ℕ} (ha : a < 2 ^ 31) (hb : b < 2 ^ 31) :
    IntOp.minsi (BitVec.ofNat 32 a) (BitVec.ofNat 32 b) = BitVec.ofNat 32 (min a b) := by
  have h1 := toInt_ofNat_of_lt (w := 32) ha
  have h2 := toInt_ofNat_of_lt (w := 32) hb
  unfold IntOp.minsi
  simp only [BitVec.slt, BitVec.sle, h1, h2, decide_eq_true_eq]
  split_ifs <;> congr 1 <;> omega

/-- A position counted from the end if it is below zero, which the word of a natural number is not. -/
theorem wrap_word {a : ℕ} (y : BitVec 32) (ha : a < 2 ^ 31) :
    Scalar.select (IntOp.cmpi .slt (BitVec.ofNat 32 a) 0#32) y (BitVec.ofNat 32 a) = BitVec.ofNat 32 a := by
  rw [show (0#32) = BitVec.ofNat 32 0 from rfl, cmpi_slt_ofNat (w := 32) ha (by decide)]
  simp only [Nat.not_lt_zero, decide_false]
  rfl

theorem ix1_eta {n : ℕ} (x : (shape1 n).Idx) : x = ix1 (x 0) := by
  funext a; fin_cases a; rfl

/-- The lookup in a table of three at the word of a place in it. -/
theorem take3 (d : GatherDims (shape1 3) (shape2 28 1) (shape1 28)) (hcoll : d.collapsedSliceDims = [0]) (hob : d.operandBatchingDims = [])
    (hsim : d.startIndexMap = [0]) (hivd : d.indexVectorDim = 1) (g : ℕ → ℕ) (idx : IVec (shape2 28 1) 32) (x : (shape1 28).Idx)
    {k : ℕ} (hk : k < 3) (hi : idx (ix2 (x 0 : Fin 28) (0 : Fin 1)) = BitVec.ofNat 32 k) :
    Host.gather d (wv g) idx x = BitVec.ofNat 32 (g k) := by
  rw [ix1_eta x]
  refine (Routing.take_ap d hcoll hob hsim hivd (wv g) idx (x 0) hk (by omega) hi).trans rfl

/-- The running sum of three words. -/
theorem cumsum3 (x : IVec (shape1 3) 32) (g : ℕ → ℕ) (hx : x = wv g) (init : IVec shape0 32) (hinit : init ix0 = 0#32)
    (h : (shape1 3).ReduceWindows (![3] : Fin 1 → Nat) ![1] ![2] ![0] (shape1 3)) (hu : 0 < shape0.numel) :
    Host.reduceWindow IntOp.addi ![3] ![1] ![2] ![0] x init h hu
      = wv fun e => if e = 0 then g 0 else if e = 1 then g 0 + g 1 else g 0 + g 1 + g 2 := by
  funext j
  rw [ix1_eta j]
  refine (Routing.cumsum_vec (N := 3) (Nm1 := 2) rfl x init hinit h hu (j 0)).trans ?_
  rw [hx]
  generalize (j 0 : Fin 3) = q
  rw [Fin.sum_univ_three]
  have key : ∀ n : ℕ, (wv g (ix1 (n := 3) 0) = BitVec.ofNat 32 (g 0) ∧ wv g (ix1 (n := 3) 1) = BitVec.ofNat 32 (g 1) ∧
    wv g (ix1 (n := 3) 2) = BitVec.ofNat 32 (g 2)) := fun _ => ⟨rfl, rfl, rfl⟩
  rw [(key 0).1, (key 0).2.1, (key 0).2.2]
  fin_cases q
  · show BitVec.ofNat 32 (g 0) + 0 + 0 = BitVec.ofNat 32 (g 0); simp
  · show BitVec.ofNat 32 (g 0) + BitVec.ofNat 32 (g 1) + 0 = BitVec.ofNat 32 (g 0 + g 1); simp [BitVec.ofNat_add]
  · show BitVec.ofNat 32 (g 0) + BitVec.ofNat 32 (g 1) + BitVec.ofNat 32 (g 2) = BitVec.ofNat 32 (g 0 + g 1 + g 2); simp [BitVec.ofNat_add]

/-- How many of three words are at most a given one. -/
theorem count3 (msk : IVec (shape2 3 28) 1) (e : ℕ → ℕ) (w : ℕ → ℕ)
    (hm : ∀ (p : Fin 3) (q : Fin 28), msk (ix2 p q) = BitVec.ofBool (decide (e p.val ≤ w q.val)))
    (h : (shape2 3 28).ReducesTo [0] (shape1 28)) (hu : 0 < shape0.numel) :
    Host.reduce IntOp.addi (extui 32 msk (by decide)) (constantI shape0 32 0#32) h hu
      = wv fun v => (if e 0 ≤ w v then 1 else 0) + (if e 1 ≤ w v then 1 else 0) + (if e 2 ≤ w v then 1 else 0) := by
  funext j
  apply BitVec.eq_of_toNat_eq
  rw [StableHlo.Predicate.toNat_reduce_count_rows (by decide) msk (by decide) h hu j, Finset.card_filter, Fin.sum_univ_three]
  have hq : ∀ p : Fin 3, msk (StableHlo.Predicate.ij p (j 0)) = BitVec.ofBool (decide (e p.val ≤ w (j 0).val)) := fun p =>
    (congrArg msk (by funext a; fin_cases a <;> rfl)).trans (hm p (j 0))
  rw [hq, hq, hq]
  simp only [ofBool_decide_eq_one_iff]
  show _ = (BitVec.ofNat 32 ((if e 0 ≤ w (j 0).val then 1 else 0) + (if e 1 ≤ w (j 0).val then 1 else 0) + (if e 2 ≤ w (j 0).val then 1 else 0))).toNat
  rw [toNat_ofNat_of_lt]
  · rfl
  · split_ifs <;> decide

end Cert.Words
end
-- ==== Proof.Pre.lean ====
/- The precondition as natural numbers: three group sizes, each at most 12288 and so is their sum. -/
module

public import proofs.«01_k».proof.Pre_groups_fit
public import proofs.«01_k».proof.Proof.Words

@[expose] public section

noncomputable section

namespace Cert.Words

open Idealize.ShloMosaic Idealize.ShloMosaic.ValueIdx Idealize.ShloMosaic.WordCmp Cert.Sched
open Idealize.ShloMosaic.Routing (shape0 shape1)

/-- Three sizes that fit. -/
structure Sizes (g : ℕ → ℕ) : Prop where
  le0 : g 0 ≤ 12288
  le1 : g 1 ≤ 12288
  le2 : g 2 ≤ 12288
  sum : g 0 + g 1 + g 2 ≤ 12288

/-- A size rounded up to a multiple of 32. -/
abbrev up (g : ℕ → ℕ) (e : ℕ) : ℕ := (g e + 31) / 32 * 32

/-- The groups' row counts from their sizes. -/
def rowsOf (g : ℕ → ℕ) (h : Sizes g) : Rows where
  r0 := up g 0
  r1 := up g 1
  r2 := up g 2
  d0 := by unfold up; omega
  d1 := by unfold up; omega
  d2 := by unfold up; omega
  fits := by have := h.sum; unfold up; omega

/-- The sum of three words. -/
theorem sum3 (x : IVec (shape1 3) 32) (h : (shape1 3).ReducesTo [0] shape0) (hu : 0 < shape0.numel) :
    Host.reduce IntOp.addi x (constantI shape0 32 0#32) h hu ix0 = x (ix1 0) + x (ix1 1) + x (ix1 2) := by
  unfold Host.reduce
  have e : ∀ n : Fin (shape1 3).numel, h.drop ((shape1 3).rowMajor.symm n) = ix0 := fun n => by
    funext a; exact a.elim0
  rw [List.filter_eq_self.2 (fun n _ => by simp [e n])]
  show 0#32 + x ((shape1 3).rowMajor.symm (0 : Fin 3)) + x ((shape1 3).rowMajor.symm (1 : Fin 3)) + x ((shape1 3).rowMajor.symm (2 : Fin 3)) = _
  rw [BitVec.zero_add]
  have i : ∀ n : Fin 3, (shape1 3).rowMajor.symm n = ix1 n := fun n => by
    exact ((shape1 3).rowMajor.symm_apply_eq).2 <| Fin.ext (Shape.rowMajor_val_one (d := ![3]) (ix1 n)).symm
  rw [i, i, i]

/-- What the precondition says of the sizes. -/
theorem sizes_of_pre {F : FTy → Type} [FloatOps F] [Cert.Pre_groups_fit.Facts] (a0 : IVec Cert.Pre_groups_fit.S3 32)
    (a1 : FVec F Cert.Pre_groups_fit.S13312x5120 .bf16) (a2 : FVec F Cert.Pre_groups_fit.S13312x8192 .bf16)
    (h : (Cert.Pre_groups_fit.fn a0 a1 a2).1 = (fun _ => 1#1) ∧ (Cert.Pre_groups_fit.fn a0 a1 a2).2.1 = (fun _ => 1#1) ∧
      (Cert.Pre_groups_fit.fn a0 a1 a2).2.2 = (fun _ => 1#1)) : ∃ g, a0 = wv g ∧ Sizes g := by
  obtain ⟨h1, h2, h3⟩ := h
  have ge : ∀ x, 0 ≤ (a0 x).toInt := fun x => by
    have := congrFun h1 x
    exact (ofBool_decide_eq_one_iff _).1 this
  have le : ∀ x, (a0 x).toInt ≤ 12288 := fun x => by
    have := congrFun h2 x
    exact (ofBool_decide_eq_one_iff _).1 this
  have sm : (a0 (ix1 0) + a0 (ix1 1) + a0 (ix1 2)).toInt ≤ 12288 := by
    have := congrFun h3 ix0
    rw [← sum3 a0 Cert.Pre_groups_fit.Facts.reducesTo_S3_S_d0 Cert.Pre_groups_fit.Facts.h_S_]
    exact (ofBool_decide_eq_one_iff _).1 this
  refine ⟨fun n => if h : n < 3 then (a0 (ix1 ⟨n, h⟩)).toNat else 0, ?_, ?_⟩
  · funext x
    show a0 x = BitVec.ofNat 32 (dite ((x 0).val < 3) _ _)
    rw [dif_pos (show (x 0).val < 3 from (x 0).isLt)]
    rw [BitVec.ofNat_toNat, BitVec.setWidth_eq]
    exact congrArg a0 (ix1_eta x)
  · have n : ∀ x, (a0 x).toNat ≤ 12288 := fun x => by
      have h1 := ge x; have h2 := le x
      rw [BitVec.toInt_eq_toNat_cond] at h1 h2
      have := (a0 x).isLt
      split_ifs at h1 h2 <;> omega
    have s : (a0 (ix1 0)).toNat + (a0 (ix1 1)).toNat + (a0 (ix1 2)).toNat ≤ 12288 := by
      have h0 := n (ix1 0); have h1 := n (ix1 1); have h2 := n (ix1 2)
      rw [BitVec.toInt_eq_toNat_cond, BitVec.toNat_add, BitVec.toNat_add] at sm
      rw [Nat.mod_eq_of_lt (a := (a0 (ix1 0)).toNat + _) (by omega), Nat.mod_eq_of_lt (by omega)] at sm
      split_ifs at sm <;> omega
    exact ⟨n _, n _, n _, s⟩

end Cert.Words
end
-- ==== Proof.Host.lean ====
/- What the host operations before the launch leave: the four tables of the schedule, from the three group sizes. -/
module

public import proofs.«01_k».proof.Proof.Run
public import proofs.«01_k».proof.Proof.Pre
public import Idealize.ShloMosaic.Lib.StableHlo.ReadAt

@[expose] public section

set_option maxRecDepth 16384

noncomputable section

namespace Cert.KernelIdeal.Hand

open Cert.KernelIdeal Cert.KernelIdeal.Gen Cert.Sched Cert.Words
open Idealize.ShloMosaic Idealize.ShloMosaic.ValueIdx Idealize.ShloMosaic.WordCmp
open Idealize.ShloMosaic.TcCoe

variable {F : FTy → Type} [FloatOps F]

section stages

variable (W : Valuation τ sig (Elt F)) (g : ℕ → ℕ)

theorem s0 (h : (W (Proc.devRef .tc main_arg0) : S3.Idx → BitVec 32) = wv g) :
    (StableHlo.after hostOps0 W (Proc.devRef .tc main_v3) : S3.Idx → BitVec 32) = wv fun e => g e + 31 := by
  funext x
  after_reads_at
  rw [h]
  show IntOp.subi (IntOp.addi (BitVec.ofNat 32 (g (x 0).val)) (BitVec.ofNat 32 32)) (BitVec.ofNat 32 1) = _
  rw [addi_ofNat, sub_word (by omega)]
  rfl

theorem s0c : (StableHlo.after hostOps0 W (Proc.devRef .tc main_c_1) : S_.Idx → BitVec 32) = fun _ => 32#32 := by
  funext x
  after_reads_at

theorem s1 (h : (W (Proc.devRef .tc main_v3) : S3.Idx → BitVec 32) = wv g) (hc : (W (Proc.devRef .tc main_c_1) : S_.Idx → BitVec 32) = fun _ => 32#32)
    (hg : ∀ x : S3.Idx, g (x 0).val < 2 ^ 31) :
    (StableHlo.after hostOps0_1 W (Proc.devRef .tc main_v4) : S3.Idx → BitVec 32) = wv fun e => g e / 32 := by
  funext x
  after_reads_at
  rw [h, hc]
  exact fdiv_word (a := g (x 0).val) (b := 32) (hg x) (by decide) (by decide)

theorem s2 (h : (W (Proc.devRef .tc main_v4) : S3.Idx → BitVec 32) = wv g) :
    (StableHlo.after hostOps0_2 W (Proc.devRef .tc main_v6) : S3.Idx → BitVec 32) = wv fun e => g e * 32 := by
  funext x
  after_reads_at
  rw [h]
  exact muli_ofNat (g (x 0).val) 32

theorem s3 (h : (W (Proc.devRef .tc main_v6) : S3.Idx → BitVec 32) = wv g) :
    (StableHlo.after hostOps0_3 W (Proc.devRef .tc main_v7) : S3.Idx → BitVec 32)
      = wv fun e => if e = 0 then g 0 else if e = 1 then g 0 + g 1 else g 0 + g 1 + g 2 := by
  funext x
  after_reads_at
  exact congrFun (cumsum3 _ g h _ (by rfl) _ _) x

theorem s4 (f : ℕ → ℕ) (h : (W (Proc.devRef .tc main_v6) : S3.Idx → BitVec 32) = wv g) (h' : (W (Proc.devRef .tc main_v7) : S3.Idx → BitVec 32) = wv f)
    (hg : ∀ x : S3.Idx, g (x 0).val ≤ f (x 0).val) :
    (StableHlo.after hostOps0_4 W (Proc.devRef .tc main_v8) : S3.Idx → BitVec 32) = wv fun e => f e - g e := by
  funext x
  after_reads_at
  rw [h, h']
  exact sub_word (hg x)

theorem s4' (h : (W (Proc.devRef .tc main_v6) : S3.Idx → BitVec 32) = wv g) :
    (StableHlo.after hostOps0_4 W (Proc.devRef .tc main_v12) : S3.Idx → BitVec 32) = wv fun e => g e + 511 := by
  funext x
  after_reads_at
  rw [h]
  show IntOp.subi (IntOp.addi (BitVec.ofNat 32 (g (x 0).val)) (BitVec.ofNat 32 512)) (BitVec.ofNat 32 1) = _
  rw [addi_ofNat, sub_word (by omega)]
  rfl

theorem s4c : (StableHlo.after hostOps0_4 W (Proc.devRef .tc main_c_5) : S_.Idx → BitVec 32) = fun _ => 512#32 := by
  funext x
  after_reads_at

theorem s5 (h : (W (Proc.devRef .tc main_v12) : S3.Idx → BitVec 32) = wv g) (hc : (W (Proc.devRef .tc main_c_5) : S_.Idx → BitVec 32) = fun _ => 512#32)
    (hg : ∀ x : S3.Idx, g (x 0).val < 2 ^ 31) :
    (StableHlo.after hostOps0_5 W (Proc.devRef .tc main_v13) : S3.Idx → BitVec 32) = wv fun e => g e / 512 := by
  funext x
  after_reads_at
  rw [h, hc]
  exact fdiv_word (a := g (x 0).val) (b := 512) (hg x) (by decide) (by decide)

theorem s6 (h : (W (Proc.devRef .tc main_v13) : S3.Idx → BitVec 32) = wv g) (hg : ∀ x : S3.Idx, g (x 0).val < 2 ^ 31) :
    (StableHlo.after hostOps0_6 W (Proc.devRef .tc main_v15) : S3.Idx → BitVec 32) = wv fun e => max (g e) 1 := by
  funext x
  after_reads_at
  rw [h]
  exact max_word (a := g (x 0).val) (b := 1) (hg x) (by decide)

theorem s7 (h : (W (Proc.devRef .tc main_v15) : S3.Idx → BitVec 32) = wv g) :
    (StableHlo.after hostOps0_7 W (Proc.devRef .tc main_v16) : S3.Idx → BitVec 32)
      = wv fun e => if e = 0 then g 0 else if e = 1 then g 0 + g 1 else g 0 + g 1 + g 2 := by
  funext x
  after_reads_at
  exact congrFun (cumsum3 _ g h _ (by rfl) _ _) x

theorem s8 (h : (W (Proc.devRef .tc main_v16) : S3.Idx → BitVec 32) = wv g) (h1 : 1 ≤ g 2) (hg : g 2 < 2 ^ 31) :
    (StableHlo.after hostOps0_8 W (Proc.devRef .tc main_v26) : S28.Idx → BitVec 32) = wv fun v => min v (g 2 - 1) := by
  funext x
  after_reads_at
  rw [h]
  show IntOp.minsi (BitVec.ofNat 32 (x 0).val) (IntOp.subi (BitVec.ofNat 32 (g 2)) (BitVec.ofNat 32 1)) = _
  rw [sub_word h1, min_word (by have : (x 0).val < 28 := (x 0).isLt; omega) (by omega)]
  rfl

theorem s8' (h : (W (Proc.devRef .tc main_v16) : S3.Idx → BitVec 32) = wv g) (hg : g 2 < 2 ^ 31) :
    (StableHlo.after hostOps0_8 W (Proc.devRef .tc main_v21) : S28.Idx → BitVec 1) = fun x => BitVec.ofBool (decide ((x 0).val < g 2)) := by
  funext x
  after_reads_at
  rw [h]
  exact cmpi_slt_ofNat (w := 32) (by have : (x 0).val < 28 := (x 0).isLt; omega) hg

theorem s9 (w : ℕ → ℕ) (h : (W (Proc.devRef .tc main_v16) : S3.Idx → BitVec 32) = wv g) (hw : (W (Proc.devRef .tc main_v26) : S28.Idx → BitVec 32) = wv w)
    (hg : ∀ p : Fin 3, g p.val < 2 ^ 31) (hg' : ∀ q : Fin 28, w q.val < 2 ^ 31) :
    (StableHlo.after hostOps0_9 W (Proc.devRef .tc main_v27) : S28.Idx → BitVec 32)
      = wv fun v => (if g 0 ≤ w v then 1 else 0) + (if g 1 ≤ w v then 1 else 0) + (if g 2 ≤ w v then 1 else 0) := by
  funext x
  after_reads_at
  refine congrFun (count3 _ g w (fun p q => ?_) _ _) x
  rw [h, hw]
  exact cmpi_sle_ofNat (w := 32) (hg p) (hg' q)

/-- The lookup of a group's entry in a table of three, at the visit's group. -/
theorem look (x : S3.Idx → BitVec 32) (t e : ℕ → ℕ) (y z : S28.Idx → BitVec 32) (hx : x = wv t) (hz : z = wv e) (he : ∀ q : Fin 28, e q.val < 3) :
    Host.gather gather_S3_S28x1_S28_n_0_n_n_0_1_1 x
      (broadcastInDim S28x1 ![0] bcast_S28_S28x1_0
        (select (cmpi CmpIPredicate.slt z (broadcastInDim S28 ![] bcast_S_S28 (constantI S_ 32 0#32))) y z))
      = wv fun v => t (e v) := by
  subst hx hz
  funext j
  refine (take3 _ rfl rfl rfl rfl t _ j (k := e (j 0).val) (he (j 0)) ?_).trans rfl
  exact wrap_word _ (by have := he (j 0); show e (j 0).val < 2 ^ 31; exact lt_trans this (by decide))

theorem s10 (en cn w e : ℕ → ℕ) (h16 : (W (Proc.devRef .tc main_v16) : S3.Idx → BitVec 32) = wv en)
    (h15 : (W (Proc.devRef .tc main_v15) : S3.Idx → BitVec 32) = wv cn)
    (h26 : (W (Proc.devRef .tc main_v26) : S28.Idx → BitVec 32) = wv w) (h27 : (W (Proc.devRef .tc main_v27) : S28.Idx → BitVec 32) = wv e)
    (he : ∀ q : Fin 28, e q.val < 3) (hc : ∀ p : Fin 3, cn p.val ≤ en p.val) (hw : ∀ q : Fin 28, en (e q.val) - cn (e q.val) ≤ w q.val) :
    (StableHlo.after hostOps0_10 W (Proc.devRef .tc main_v36) : S28.Idx → BitVec 32) = wv fun v => w v - (en (e v) - cn (e v)) := by
  funext x
  after_reads_at
  rw [look _ (fun p => en p - cn p) e _ _ ?_ h27 he, h26]
  · exact sub_word (hw (x 0))
  · rw [h16, h15]
    funext j
    exact sub_word (hc (j 0))

theorem s10' (en cn w e r : ℕ → ℕ) (h6 : (W (Proc.devRef .tc main_v6) : S3.Idx → BitVec 32) = wv r)
    (h16 : (W (Proc.devRef .tc main_v16) : S3.Idx → BitVec 32) = wv en) (h15 : (W (Proc.devRef .tc main_v15) : S3.Idx → BitVec 32) = wv cn)
    (h26 : (W (Proc.devRef .tc main_v26) : S28.Idx → BitVec 32) = wv w) (h27 : (W (Proc.devRef .tc main_v27) : S28.Idx → BitVec 32) = wv e)
    (he : ∀ q : Fin 28, e q.val < 3) (hc : ∀ p : Fin 3, cn p.val ≤ en p.val) (hw : ∀ q : Fin 28, en (e q.val) - cn (e q.val) ≤ w q.val)
    (hr : ∀ q : Fin 28, (w q.val - (en (e q.val) - cn (e q.val))) * 512 ≤ r (e q.val)) :
    (StableHlo.after hostOps0_10 W (Proc.devRef .tc main_v46) : S28.Idx → BitVec 32)
      = wv fun v => r (e v) - (w v - (en (e v) - cn (e v))) * 512 := by
  funext x
  after_reads_at
  rw [look _ r e _ _ h6 h27 he, look _ (fun p => en p - cn p) e _ _ ?_ h27 he, h26]
  · show IntOp.subi (BitVec.ofNat 32 (r (e (x 0).val))) (IntOp.muli (IntOp.subi (BitVec.ofNat 32 (w (x 0).val))
      (BitVec.ofNat 32 (en (e (x 0).val) - cn (e (x 0).val)))) (BitVec.ofNat 32 512)) = _
    rw [sub_word (hw (x 0)), muli_ofNat, sub_word (hr (x 0))]
    rfl
  · rw [h16, h15]
    funext j
    exact sub_word (hc (j 0))

theorem s10c : (StableHlo.after hostOps0_10 W (Proc.devRef .tc main_c_13) : S_.Idx → BitVec 32) = fun _ => 0#32 := by
  funext x
  after_reads_at

theorem s10c' : (StableHlo.after hostOps0_10 W (Proc.devRef .tc main_c_14) : S_.Idx → BitVec 32) = fun _ => 512#32 := by
  funext x
  after_reads_at

theorem s11 (h : (W (Proc.devRef .tc main_v46) : S28.Idx → BitVec 32) = wv g) (hg : ∀ q : Fin 28, g q.val < 2 ^ 31)
    (h13 : (W (Proc.devRef .tc main_c_13) : S_.Idx → BitVec 32) = fun _ => 0#32) (h14 : (W (Proc.devRef .tc main_c_14) : S_.Idx → BitVec 32) = fun _ => 512#32) :
    (StableHlo.after hostOps0_11 W (Proc.devRef .tc main_v47) : S28.Idx → BitVec 32) = wv fun v => min (g v) 512 := by
  funext x
  after_reads_at
  rw [h, h13, h14]
  show IntOp.minsi (BitVec.ofNat 32 512) (IntOp.maxsi (BitVec.ofNat 32 0) (BitVec.ofNat 32 (g (x 0).val))) = _
  rw [max_word (by decide) (hg (x 0)), min_word (by decide) (by have : g (x 0).val < 2 ^ 31 := hg (x 0); omega), Nat.zero_max, Nat.min_comm]
  rfl

theorem s12c : (StableHlo.after hostOps0_12 W (Proc.devRef .tc main_c_15) : S_.Idx → BitVec 32) = fun _ => 0#32 := by
  funext x
  after_reads_at

theorem s13 (n : ℕ) (h : (W (Proc.devRef .tc main_v47) : S28.Idx → BitVec 32) = wv g)
    (h21 : (W (Proc.devRef .tc main_v21) : S28.Idx → BitVec 1) = fun x => BitVec.ofBool (decide ((x 0).val < n)))
    (h15 : (W (Proc.devRef .tc main_c_15) : S_.Idx → BitVec 32) = fun _ => 0#32) :
    (StableHlo.after hostOps0_13 W (Proc.devRef .tc main_v48) : S28.Idx → BitVec 32) = wv fun v => if v < n then g v else 0 := by
  funext x
  after_reads_at
  rw [h, h21, h15]
  show Scalar.select (BitVec.ofBool (decide ((x 0).val < n))) (BitVec.ofNat 32 (g (x 0).val)) (BitVec.ofNat 32 0) = BitVec.ofNat 32 (if (x 0).val < n then _ else _)
  rw [select_decide]
  split_ifs <;> rfl

theorem s14 (i e st : ℕ → ℕ) (h8 : (W (Proc.devRef .tc main_v8) : S3.Idx → BitVec 32) = wv st)
    (h27 : (W (Proc.devRef .tc main_v27) : S28.Idx → BitVec 32) = wv e) (he : ∀ q : Fin 28, e q.val < 3)
    (h36 : (W (Proc.devRef .tc main_v36) : S28.Idx → BitVec 32) = wv i) :
    (StableHlo.after hostOps0_14 W (Proc.devRef .tc main_v58) : S28.Idx → BitVec 32) = wv fun v => st (e v) + i v * 512 := by
  funext x
  after_reads_at
  rw [look _ st e _ _ h8 h27 he, h36]
  show IntOp.addi (BitVec.ofNat 32 (st (e (x 0).val))) (IntOp.muli (BitVec.ofNat 32 (i (x 0).val)) (BitVec.ofNat 32 512)) = _
  rw [muli_ofNat, addi_ofNat]
  rfl

theorem s14' (n : ℕ) (i : ℕ → ℕ) (h21 : (W (Proc.devRef .tc main_v21) : S28.Idx → BitVec 1) = fun x => BitVec.ofBool (decide ((x 0).val < n)))
    (h36 : (W (Proc.devRef .tc main_v36) : S28.Idx → BitVec 32) = wv i) (hi : ∀ q : Fin 28, i q.val < 2 ^ 31) :
    (StableHlo.after hostOps0_14 W (Proc.devRef .tc main_v62) : S28.Idx → BitVec 32) = wv fun v => if v < n ∧ i v = 0 then 1 else 0 := by
  funext x
  after_reads_at
  rw [h21, h36]
  show (IntOp.andi (BitVec.ofBool (decide ((x 0).val < n))) (IntOp.cmpi .eq (BitVec.ofNat 32 (i (x 0).val)) (BitVec.ofNat 32 0))).setWidth 32
    = BitVec.ofNat 32 (if (x 0).val < n ∧ i (x 0).val = 0 then 1 else 0)
  have : i (x 0).val < 2 ^ 31 := hi (x 0)
  rw [cmpi_eq_ofNat (w := 32) (by omega) (by decide), andi_ofBool]
  by_cases h1 : (x 0).val < n <;> by_cases h2 : i (x 0).val = 0 <;> simp [h1, h2]

end stages

/-! The valuations after each stretch of host operations, in order. -/

section chain

variable (V : Valuation τ sig (Elt F))

abbrev A0 : Valuation τ sig (Elt F) := StableHlo.after hostOps0 V
abbrev A1 : Valuation τ sig (Elt F) := StableHlo.after hostOps0_1 (A0 V)
abbrev A2 : Valuation τ sig (Elt F) := StableHlo.after hostOps0_2 (A1 V)
abbrev A3 : Valuation τ sig (Elt F) := StableHlo.after hostOps0_3 (A2 V)
abbrev A4 : Valuation τ sig (Elt F) := StableHlo.after hostOps0_4 (A3 V)
abbrev A5 : Valuation τ sig (Elt F) := StableHlo.after hostOps0_5 (A4 V)
abbrev A6 : Valuation τ sig (Elt F) := StableHlo.after hostOps0_6 (A5 V)
abbrev A7 : Valuation τ sig (Elt F) := StableHlo.after hostOps0_7 (A6 V)
abbrev A8 : Valuation τ sig (Elt F) := StableHlo.after hostOps0_8 (A7 V)
abbrev A9 : Valuation τ sig (Elt F) := StableHlo.after hostOps0_9 (A8 V)
abbrev A10 : Valuation τ sig (Elt F) := StableHlo.after hostOps0_10 (A9 V)
abbrev A11 : Valuation τ sig (Elt F) := StableHlo.after hostOps0_11 (A10 V)
abbrev A12 : Valuation τ sig (Elt F) := StableHlo.after hostOps0_12 (A11 V)
abbrev A13 : Valuation τ sig (Elt F) := StableHlo.after hostOps0_13 (A12 V)
abbrev A14 : Valuation τ sig (Elt F) := StableHlo.after hostOps0_14 (A13 V)

theorem after_stretches : StableHlo.after (stretches F).flatten V = A14 V := by
  simp only [stretches, List.flatten_cons, List.flatten_nil, List.append_nil, StableHlo.after_append]

theorem keep0 : A14 V (Proc.devRef .tc main_arg0) = V (Proc.devRef .tc main_arg0) := by after_reads_simp
theorem keep1 : A14 V (Proc.devRef .tc main_arg1) = V (Proc.devRef .tc main_arg1) := by after_reads_simp
theorem keep2 : A14 V (Proc.devRef .tc main_arg2) = V (Proc.devRef .tc main_arg2) := by after_reads_simp

end chain

theorem wv_congr {n : ℕ} {f g : ℕ → ℕ} (h : ∀ v < n, f v = g v) : (wv f : (Routing.shape1 n).Idx → BitVec 32) = wv g := by
  funext x
  show BitVec.ofNat 32 (f (x 0).val) = BitVec.ofNat 32 (g (x 0).val)
  rw [h _ (x 0).isLt]

theorem lt3 {P : ℕ → Prop} (h0 : P 0) (h1 : P 1) (h2 : P 2) : ∀ p < 3, P p := by
  intro p hp
  have : p = 0 ∨ p = 1 ∨ p = 2 := by omega
  rcases this with rfl | rfl | rfl <;> assumption

theorem at3 {P : ℕ → Prop} (h : ∀ p < 3, P p) (x : S3.Idx) : P (x 0).val := h _ (x 0).isLt

section schedule

variable (R : Rows)

theorem row_le (e : ℕ) : row R e ≤ 12384 := by
  have := R.fits
  unfold row; split_ifs <;> omega

theorem it_le (v : ℕ) : it R v * 512 ≤ row R (ex R v) := by
  have := total_pos R
  rcases ex_cases R v with ⟨h, h'⟩ | ⟨h, h', h''⟩ | ⟨h, h', h''⟩ <;> unfold it <;> rw [h] <;>
    simp only [row_0, row_1, row_2, base_0, base_1, base_2] <;> unfold cnt at * <;> omega

theorem base_le (v : ℕ) : base R (ex R v) ≤ vv R v := by
  rcases ex_cases R v with ⟨h, h'⟩ | ⟨h, h', h''⟩ | ⟨h, h', h''⟩ <;> rw [h] <;>
    simp only [base_0, base_1, base_2] <;> omega

theorem vv_lt (v : ℕ) : vv R v < 27 := by
  have := total_pos R; have := total_le R
  unfold vv; omega

end schedule

section

variable (V : Valuation τ sig (Elt F)) (g : ℕ → ℕ) (hg : Sizes g) (h : (V (Proc.devRef .tc main_arg0) : S3.Idx → BitVec 32) = wv g)

include h

theorem rows_after : (A2 V (Proc.devRef .tc main_v6) : S3.Idx → BitVec 32) = wv (row (rowsOf g hg)) := by
  have b := hg.le0; have b1 := hg.le1; have b2 := hg.le2
  have h3 := s0 V g h
  have h4 := s1 (A0 V) _ h3 (s0c V) (at3 (P := fun n => g n + 31 < 2 ^ 31) (lt3 (by omega) (by omega) (by omega)))
  exact (s2 (A1 V) _ h4).trans (wv_congr (lt3 rfl rfl rfl))

theorem start_after : (A4 V (Proc.devRef .tc main_v8) : S3.Idx → BitVec 32) = wv (start (rowsOf g hg)) := by
  have h6 := rows_after V g hg h
  have h7 := s3 (A2 V) _ h6
  have h6' : (A3 V (Proc.devRef .tc main_v6) : S3.Idx → BitVec 32) = wv (row (rowsOf g hg)) := Eq.trans (by after_reads_simp) h6
  refine (s4 (A3 V) _ _ h6' h7 (fun x => lt3 (P := fun e => row (rowsOf g hg) e ≤ if e = 0 then row (rowsOf g hg) 0
    else if e = 1 then row (rowsOf g hg) 0 + row (rowsOf g hg) 1 else row (rowsOf g hg) 0 + row (rowsOf g hg) 1 + row (rowsOf g hg) 2)
    ?_ ?_ ?_ _ (x 0).isLt)).trans (wv_congr (lt3 ?_ ?_ ?_)) <;>
    simp only [row_0, row_1, row_2, start_0, start_1, start_2, one_ne_zero, if_true, if_false, OfNat.ofNat_ne_zero, OfNat.ofNat_ne_one] <;> omega

theorem cnt_after : (A6 V (Proc.devRef .tc main_v15) : S3.Idx → BitVec 32) = wv fun e => cnt (row (rowsOf g hg) e) := by
  have h6 := rows_after V g hg h
  have h6' : (A3 V (Proc.devRef .tc main_v6) : S3.Idx → BitVec 32) = wv (row (rowsOf g hg)) := Eq.trans (by after_reads_simp) h6
  have h12 := s4' (A3 V) _ h6'
  have h13 := s5 (A4 V) _ h12 (s4c (A3 V)) (fun x => by have := row_le (rowsOf g hg) (x 0).val; omega)
  exact s6 (A5 V) _ h13 (fun x => by have := row_le (rowsOf g hg) (x 0).val; omega)

theorem end_after : (A7 V (Proc.devRef .tc main_v16) : S3.Idx → BitVec 32)
    = wv fun e => base (rowsOf g hg) e + cnt (row (rowsOf g hg) e) := by
  refine (s7 (A6 V) _ (cnt_after V g hg h)).trans (wv_congr (lt3 ?_ ?_ ?_)) <;>
    simp only [row_0, row_1, row_2, base_0, base_1, base_2, one_ne_zero, if_true, if_false, OfNat.ofNat_ne_zero, OfNat.ofNat_ne_one] <;> omega

theorem vv_after : (A8 V (Proc.devRef .tc main_v26) : S28.Idx → BitVec 32) = wv (vv (rowsOf g hg)) := by
  have := total_pos (rowsOf g hg); have := total_le (rowsOf g hg)
  refine s8 (A7 V) _ (end_after V g hg h) ?_ ?_
  · show 1 ≤ total _; omega
  · show total _ < _; omega

theorem live_after : (A8 V (Proc.devRef .tc main_v21) : S28.Idx → BitVec 1) = fun x => BitVec.ofBool (decide ((x 0).val < total (rowsOf g hg))) := by
  have := total_le (rowsOf g hg)
  exact s8' (A7 V) _ (end_after V g hg h) (by show total _ < _; omega)

theorem ex_after : (A9 V (Proc.devRef .tc main_v27) : S28.Idx → BitVec 32) = wv (ex (rowsOf g hg)) := by
  have ht := total_pos (rowsOf g hg); have ht' := total_le (rowsOf g hg)
  have h16 : (A8 V (Proc.devRef .tc main_v16) : S3.Idx → BitVec 32) = _ := Eq.trans (by after_reads_simp) (end_after V g hg h)
  refine (s9 (A8 V) _ _ h16 (vv_after V g hg h) (fun p => ?_) (fun q => ?_)).trans (wv_congr fun v _ => ?_)
  · refine lt3 (P := fun p => base (rowsOf g hg) p + cnt (row (rowsOf g hg) p) < 2 ^ 31) ?_ ?_ ?_ p.val p.isLt <;>
      simp only [row_0, row_1, row_2, base_0, base_1, base_2] <;> unfold total at ht' <;> omega
  · have := vv_lt (rowsOf g hg) q.val; omega
  · have hv : vv (rowsOf g hg) v < total (rowsOf g hg) := by unfold vv; omega
    have e0 : base (rowsOf g hg) 0 + cnt (row (rowsOf g hg) 0) = cnt (rowsOf g hg).r0 := by rw [base_0, row_0, zero_add]
    have e1 : base (rowsOf g hg) 1 + cnt (row (rowsOf g hg) 1) = cnt (rowsOf g hg).r0 + cnt (rowsOf g hg).r1 := by rw [base_1, row_1]
    have e2 : base (rowsOf g hg) 2 + cnt (row (rowsOf g hg) 2) = cnt (rowsOf g hg).r0 + cnt (rowsOf g hg).r1 + cnt (rowsOf g hg).r2 := by
      rw [base_2, row_2]
    unfold total at hv
    beta_reduce
    rcases ex_cases (rowsOf g hg) v with ⟨h, h'⟩ | ⟨h, h', h''⟩ | ⟨h, h', h''⟩ <;> rw [h]
    · rw [if_neg (by omega), if_neg (by omega), if_neg (by omega)]
    · rw [if_pos (by omega), if_neg (by omega), if_neg (by omega)]
    · rw [if_pos (by omega), if_pos (by omega), if_neg (by omega)]

theorem it_after : (A10 V (Proc.devRef .tc main_v36) : S28.Idx → BitVec 32) = wv (it (rowsOf g hg)) := by
  have h16 : (A9 V (Proc.devRef .tc main_v16) : S3.Idx → BitVec 32) = _ := Eq.trans (by after_reads_simp) (end_after V g hg h)
  have h15 : (A9 V (Proc.devRef .tc main_v15) : S3.Idx → BitVec 32) = _ := Eq.trans (by after_reads_simp) (cnt_after V g hg h)
  have h26 : (A9 V (Proc.devRef .tc main_v26) : S28.Idx → BitVec 32) = _ := Eq.trans (by after_reads_simp) (vv_after V g hg h)
  refine (s10 (A9 V) _ _ _ _ h16 h15 h26 (ex_after V g hg h) (fun q => ex_lt _ _) (fun p => Nat.le_add_left _ _) (fun q => ?_)).trans
    (wv_congr fun v _ => ?_)
  · have := base_le (rowsOf g hg) q.val; omega
  · simp only [it, Nat.add_sub_cancel]

theorem rest_after : (A10 V (Proc.devRef .tc main_v46) : S28.Idx → BitVec 32)
    = wv fun v => row (rowsOf g hg) (ex (rowsOf g hg) v) - it (rowsOf g hg) v * 512 := by
  have h6 : (A9 V (Proc.devRef .tc main_v6) : S3.Idx → BitVec 32) = _ := Eq.trans (by after_reads_simp) (rows_after V g hg h)
  have h16 : (A9 V (Proc.devRef .tc main_v16) : S3.Idx → BitVec 32) = _ := Eq.trans (by after_reads_simp) (end_after V g hg h)
  have h15 : (A9 V (Proc.devRef .tc main_v15) : S3.Idx → BitVec 32) = _ := Eq.trans (by after_reads_simp) (cnt_after V g hg h)
  have h26 : (A9 V (Proc.devRef .tc main_v26) : S28.Idx → BitVec 32) = _ := Eq.trans (by after_reads_simp) (vv_after V g hg h)
  refine (s10' (A9 V) _ _ _ _ _ h6 h16 h15 h26 (ex_after V g hg h) (fun q => ex_lt _ _) (fun p => Nat.le_add_left _ _) (fun q => ?_) (fun q => ?_)).trans
    (wv_congr fun v _ => ?_)
  · have := base_le (rowsOf g hg) q.val; omega
  · have := it_le (rowsOf g hg) q.val
    unfold it at this
    rw [Nat.add_sub_cancel]
    exact this
  · simp only [it, Nat.add_sub_cancel]

theorem kk_after : (A13 V (Proc.devRef .tc main_v48) : S28.Idx → BitVec 32) = wv (kk (rowsOf g hg)) := by
  have h47 := s11 (A10 V) _ (rest_after V g hg h) (fun q => by have := row_le (rowsOf g hg) (ex (rowsOf g hg) q.val); omega)
    (s10c (A9 V)) (s10c' (A9 V))
  have h47' : (A12 V (Proc.devRef .tc main_v47) : S28.Idx → BitVec 32) = _ := Eq.trans (by after_reads_simp) h47
  have h21 : (A12 V (Proc.devRef .tc main_v21) : S28.Idx → BitVec 1) = _ := Eq.trans (by after_reads_simp) (live_after V g hg h)
  refine (s13 (A12 V) _ _ h47' h21 (s12c (A11 V))).trans (wv_congr fun v _ => ?_)
  simp only [kk, Nat.mul_comm 512]

theorem rr_after : (A14 V (Proc.devRef .tc main_v58) : S28.Idx → BitVec 32) = wv (rr (rowsOf g hg)) := by
  have h8 : (A13 V (Proc.devRef .tc main_v8) : S3.Idx → BitVec 32) = _ := Eq.trans (by after_reads_simp) (start_after V g hg h)
  have h27 : (A13 V (Proc.devRef .tc main_v27) : S28.Idx → BitVec 32) = _ := Eq.trans (by after_reads_simp) (ex_after V g hg h)
  have h36 : (A13 V (Proc.devRef .tc main_v36) : S28.Idx → BitVec 32) = _ := Eq.trans (by after_reads_simp) (it_after V g hg h)
  refine (s14 (A13 V) _ _ _ h8 h27 (fun q => ex_lt _ _) h36).trans (wv_congr fun v _ => ?_)
  simp only [rr, Nat.mul_comm 512]

theorem ff_after : (A14 V (Proc.devRef .tc main_v62) : S28.Idx → BitVec 32) = wv (ff (rowsOf g hg)) := by
  have h21 : (A13 V (Proc.devRef .tc main_v21) : S28.Idx → BitVec 1) = _ := Eq.trans (by after_reads_simp) (live_after V g hg h)
  have h36 : (A13 V (Proc.devRef .tc main_v36) : S28.Idx → BitVec 32) = _ := Eq.trans (by after_reads_simp) (it_after V g hg h)
  exact s14' (A13 V) _ _ h21 h36 (fun q => by have := vv_lt (rowsOf g hg) q.val; unfold it; omega)

theorem tables_after (k) : A14 V (pre0.ref k) = pfR (F := F) (rowsOf g hg) k := by
  have h27 : (A14 V (Proc.devRef .tc main_v27) : S28.Idx → BitVec 32) = _ := Eq.trans (by after_reads_simp) (ex_after V g hg h)
  have h48 : (A14 V (Proc.devRef .tc main_v48) : S28.Idx → BitVec 32) = _ := Eq.trans (by after_reads_simp) (kk_after V g hg h)
  fin_cases k
  · exact h27
  · exact rr_after V g hg h
  · exact h48
  · exact ff_after V g hg h

end

variable (m : (ℓ : Loc nD τ sig) → Buf (Elt F) ℓ) (ρ : Dev nD → PrngReg)

/-- The host operations leave the schedule's tables. -/
theorem hostV_tables (g : ℕ → ℕ) (hg : Sizes g) (c : Dev nD)
    (h : (m ((c.tc : Thread nD τ).loc main_arg0) : S3.Idx → BitVec 32) = wv g) (k) : hostV m c (pre0.ref k) = pfR (F := F) (rowsOf g hg) k :=
  (congrFun (after_stretches (F := F) fun b => m (c, b)) (Proc.devRef .tc (pre0.ref k))).trans (tables_after (fun b => m (c, b)) g hg h k)

theorem hostV_arg0 (c : Dev nD) : hostV m c main_arg0 = m ((c.tc : Thread nD τ).loc main_arg0) :=
  (congrFun (after_stretches (F := F) fun b => m (c, b)) (Proc.devRef .tc main_arg0)).trans (keep0 _)
theorem hostV_arg1 (c : Dev nD) : hostV m c main_arg1 = m ((c.tc : Thread nD τ).loc main_arg1) :=
  (congrFun (after_stretches (F := F) fun b => m (c, b)) (Proc.devRef .tc main_arg1)).trans (keep1 _)
theorem hostV_arg2 (c : Dev nD) : hostV m c main_arg2 = m ((c.tc : Thread nD τ).loc main_arg2) :=
  (congrFun (after_stretches (F := F) fun b => m (c, b)) (Proc.devRef .tc main_arg2)).trans (keep2 _)

/-- The run from sizes that fit: the result's array ends at what the proof data says, the arguments unchanged, every counter zero. -/
theorem run_sizes (g : ℕ → ℕ) (hg : Sizes g) (h : ∀ c : Dev nD, (m ((c.tc : Thread nD τ).loc main_arg0) : S3.Idx → BitVec 32) = wv g) :
    θ_run (defs (F := F)) (onTc (τ := τ) (main (F := F))) ⟨m, fun _ => 0, ρ⟩
      (fun r => (∀ c : Dev nD,
        r.2.mem ((c.tc : Thread nD τ).loc main_v63) = (dats (rowsOf g hg) (hostV m) 0 c).arrAt 2 (cfgR F (rowsOf g hg)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  refine (θ_run (defs (F := F)) _ _).mono (fun r hr => ⟨fun c => ?_, hr.2⟩) (run_main (rowsOf g hg) m ρ fun c k => hostV_tables m g hg c (h c) k)
  obtain ⟨ha, hb⟩ := hr.1 c
  refine ⟨ha 2, (hb main_arg0 ?_).trans (hostV_arg0 m c), (ha 0).trans ?_, (ha 1).trans ?_⟩
  · refine Pipeline.mem_restRefs_of main_arg0 rfl fun w => ?_
    have k : ∀ w : Fin 3, (spec0 w).arr.view.ref ≠ main_arg0 := by decide
    exact k w
  · exact ((dats (rowsOf g hg) (hostV m) 0 c).arrAt_in 0 rfl _).trans (hostV_arg1 m c)
  · exact ((dats (rowsOf g hg) (hostV m) 0 c).arrAt_in 1 rfl _).trans (hostV_arg2 m c)

end Cert.KernelIdeal.Hand
end
-- ==== Proof.KBody.lean ====
/- One visit of the grouped product's kernel body: what it leaves in the output block, as a function of the two words of the
   tables it reads, the two staged blocks and what the output block held. -/
module

public import proofs.«01_k».proof.Proof.Gen.Kernel.Skeleton
public import proofs.«01_k».proof.Proof.Gen.Kernel.Launch
public import Idealize.ShloMosaic.Lib.Pipeline.Kit
public import Idealize.ShloMosaic.Lib.Pipeline.FrameBody
public import Idealize.ShloMosaic.Lib.Pipeline.TableIdle
public import Idealize.ShloMosaic.Lib.VecWindow
public import Idealize.ShloMosaic.Lib.Writes
public import Idealize.ShloMosaic.Lib.Ring
public import Idealize.ShloMosaic.Lib.Affine
public import Idealize.ShloMosaic.Adequacy
public import Idealize.ShloMosaic.Init
public import Idealize.ShloMosaic.Lib.Exec
public import Idealize.ShloMosaic.Lib.Tactic

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts, whole. -/
abbrev tbE : Memref sig .tc .smem S28 .i32 := Memref.whole main_v27
/-- The table of first rows, whole. -/
abbrev tbR : Memref sig .tc .smem S28 .i32 := Memref.whole main_v58
/-- The table of row counts, whole. -/
abbrev tbK : Memref sig .tc .smem S28 .i32 := Memref.whole main_v48
/-- The table of first-visit marks, whole. -/
abbrev tbF : Memref sig .tc .smem S28 .i32 := Memref.whole main_v62

/-- The row count that the body reads at point `i`. -/
abbrev kw (T : S28.Idx → Elt F .i32) (i : grid0.Coords) : Elt F .i32 :=
  View.readAt (Elt F) tbK.view (Rect.unit (s := S28) (k0_off1 i) S1.size (k0_off1_inb i)).toLoadRect T (Shape.Idx.first (numel1_S1.symm ▸ Nat.one_pos))
/-- The first-visit mark that the body reads at point `i`. -/
abbrev fw (T : S28.Idx → Elt F .i32) (i : grid0.Coords) : Elt F .i32 :=
  View.readAt (Elt F) tbF.view (Rect.unit (s := S28) (k0_off1 i) S1.size (k0_off1_inb i)).toLoadRect T (Shape.Idx.first (numel1_S1.symm ▸ Nat.one_pos))

/-- What one visit leaves in the output block: cleared if the visit is the expert's first, then the product of the staged blocks
    added, whole or with the rows past the count masked. -/
def stepV (k f : Elt F .i32) (a : Vec F S512x2560 .bf16) (b : Vec F S512x1024 .bf16) (o : Vec F S1x2560x1024 .f32) :
    Vec F S1x2560x1024 .f32 :=
  let o1 := if k0_cond1 f = 1#1 then k0_pay1 else o
  let o2 := if k0_cond2 k = 1#1 then k0_pay2 o1 a b else o1
  if k0_cond3 k = 1#1 then k0_pay3 k a b o2 else o2

/-- A load of the whole output block after a store of the whole of it reads what was stored. -/
theorem cov9 (v : View sig .tc .vmem S1x2560x1024 .f32) (w : S1x2560x1024.Idx → Elt F .f32) (L : List (View.Piece (Elt F) S1x2560x1024 .f32)) :
    v.readCov (⟨(Rect.unit (s := S1x2560x1024) ![0, 0, 0] S1x2560x1024.size inb_S1x2560x1024_S1x2560x1024_0_0_0), w⟩ :: L) (Rect.unit (s := S1x2560x1024) ![0, 0, 0] S1x2560x1024.size inb_S1x2560x1024_S1x2560x1024_0_0_0).toLoadRect = w := View.readCov_full v _ _ w L
/-- The output block after a store of the whole of it is what was stored. -/
theorem put9 (v : View sig .tc .vmem S1x2560x1024 .f32) (f : v.ty.Contents (Elt F)) (w : S1x2560x1024.Idx → Elt F .f32) (L : List (View.Piece (Elt F) S1x2560x1024 .f32)) :
    v.read (Elt F) (v.writes (Elt F) f (⟨(Rect.unit (s := S1x2560x1024) ![0, 0, 0] S1x2560x1024.size inb_S1x2560x1024_S1x2560x1024_0_0_0), w⟩ :: L)) = w := View.read_writes_full v f _ w L
/-- A load of the whole output block. -/
theorem get9 (v : View sig .tc .vmem S1x2560x1024 .f32) (x : S1x2560x1024.Idx → Elt F .f32) :
    v.readAt (Elt F) (Rect.unit (s := S1x2560x1024) ![0, 0, 0] S1x2560x1024.size inb_S1x2560x1024_S1x2560x1024_0_0_0).toLoadRect (v.rep x) = x := View.readAt_rep_full v x _
/-- A load of the whole left block. -/
theorem get7 (v : View sig .tc .vmem S512x2560 .bf16) (x : S512x2560.Idx → Elt F .bf16) :
    v.readAt (Elt F) (Rect.unit (s := S512x2560) ![0, 0] S512x2560.size inb_S512x2560_S512x2560_0_0).toLoadRect (v.rep x) = x := View.readAt_rep_full v x _
/-- A load of the whole right block. -/
theorem get8 (v : View sig .tc .vmem S512x1024 .bf16) (x : S512x1024.Idx → Elt F .bf16) :
    v.readAt (Elt F) (Rect.unit (s := S512x1024) ![0, 0] S512x1024.size inb_S512x1024_S512x1024_0_0).toLoadRect (v.rep x) = x := View.readAt_rep_full v x _

set_option maxHeartbeats 8000000 in
/-- The body's triple: from the staged blocks, the tables and the output block at `o`, the body runs to the same with the
    output block at `stepV`. -/
theorem body_run (c : Dev nD) (i : grid0.Coords) (arg7 : Memref sig .tc .vmem S512x2560 .bf16) (harg7 : arg7.IsWhole)
    (arg8 : Memref sig .tc .vmem S512x1024 .bf16) (harg8 : arg8.IsWhole) (arg9 : Memref sig .tc .vmem S1x2560x1024 .f32) (harg9 : arg9.IsWhole)
    (T0 T1 T2 T3 : S28.Idx → Elt F .i32) (x0 : S512x2560.Idx → Elt F .bf16) (x1 : S512x1024.Idx → Elt F .bf16)
    (o : S1x2560x1024.Idx → Elt F .f32) (K : PUnit → sProp 𝕄) :
    iprop((arg7.view.loc (c : Thread nD τ) ↦[arg7.view.set]{fullShare} arg7.view.rep x0)
      ∗ (arg8.view.loc (c : Thread nD τ) ↦[arg8.view.set]{fullShare} arg8.view.rep x1)
      ∗ (tbE.view.loc (c : Thread nD τ) ↦{fullShare.right} T0)
      ∗ (tbR.view.loc (c : Thread nD τ) ↦{fullShare.right} T1)
      ∗ (tbK.view.loc (c : Thread nD τ) ↦{fullShare.right} T2)
      ∗ (tbF.view.loc (c : Thread nD τ) ↦{fullShare.right} T3)
      ∗ (arg9.view.loc (c : Thread nD τ) ↦[arg9.view.set]{fullShare} arg9.view.rep o)
      ∗ (iprop((arg7.view.loc (c : Thread nD τ) ↦[arg7.view.set]{fullShare} arg7.view.rep x0)
          ∗ (arg8.view.loc (c : Thread nD τ) ↦[arg8.view.set]{fullShare} arg8.view.rep x1)
          ∗ (tbE.view.loc (c : Thread nD τ) ↦{fullShare.right} T0)
          ∗ (tbR.view.loc (c : Thread nD τ) ↦{fullShare.right} T1)
          ∗ (tbK.view.loc (c : Thread nD τ) ↦{fullShare.right} T2)
          ∗ (tbF.view.loc (c : Thread nD τ) ↦{fullShare.right} T3)
          ∗ owns (c : Thread nD τ) arg9 fullShare (stepV (kw T2 i) (fw T3 i) x0 x1 o)) -∗ K ⟨⟩))
      ⊢ wp frame (wpE (defs₀ (F := F)) Variants.none c none) Set.univ
          (cc0_wgrad i tbE (Memref.isWhole_whole _) tbR (Memref.isWhole_whole _) tbK (Memref.isWhole_whole _) tbF (Memref.isWhole_whole _)
            arg7 harg7 arg8 harg8 arg9 harg9) K := by
  unfold owns
  rw [cc0_wgrad_eq_skeleton]; unfold cc0_wgrad_skel
  have hT0 : tbE.IsWhole := Memref.isWhole_whole _
  have hT1 : tbR.IsWhole := Memref.isWhole_whole _
  have hT2 : tbK.IsWhole := Memref.isWhole_whole _
  have hT3 : tbF.IsWhole := Memref.isWhole_whole _
  generalize hX : stepV (kw T2 i) (fw T3 i) x0 x1 o = X
  unfold stepV at hX
  by_cases h1 : k0_cond1 (fw T3 i) = 1#1 <;> by_cases h2 : k0_cond2 (kw T2 i) = 1#1 <;> by_cases h3 : k0_cond3 (kw T2 i) = 1#1
  all_goals
    simp only [h1, h2, h3, if_true, if_false] at hX
    iintro ⟨H0, H1, HT0, HT1, HT2, HT3, HO, Hk⟩
    sl_exec! (disch := first | exact h1 | exact h2 | exact h3)
    sl_step
    iapply Hk
    isplitl [H0]; · iexact H0
    isplitl [H1]; · iexact H1
    isplitl [HT0]; · iexact HT0
    isplitl [HT1]; · iexact HT1
    isplitl [HT2]; · iexact HT2
    isplitl [HT3]; · iexact HT3
    iexists _; isplitr; swap
    · iexact HO
    · ipureintro
      sl_unfold_words
      first | rw [put9] | rw [View.read_rep]
      repeat first | rw [cov9] | rw [get7] | rw [get8] | rw [get9]
      exact hX

end Cert.Kernel.Hand

end
-- ==== Proof.KTables.lean ====
/- The four prefetched tables as the schedule's words (`Sched`), and what the index maps, the body's conditions and the pipeline's
   write-backs come to at them. -/
module

public import proofs.«01_k».proof.Proof.Sched
public import proofs.«01_k».proof.Proof.KBody
public import Idealize.ShloMosaic.Lib.Pipeline.TableIdle
public import Idealize.ShloMosaic.Lib.Affine

@[expose] public section

set_option maxRecDepth 16384

noncomputable section

namespace Cert.Kernel.Hand

open Cert.Kernel Cert.Kernel.Gen Cert.Sched
open Idealize.ShloMosaic
open Idealize.ShloMosaic.TcCoe

variable {F : FTy → Type} [FloatOps F]

/-- A table of 28 words, from a function of the visit. -/
def tab (g : ℕ → ℕ) : S28.Idx → BitVec 32 := fun x => BitVec.ofNat 32 (g (x 0).val)

/-- The four tables of the schedule: groups, first rows, row counts, first-visit marks. -/
def pfR (R : Rows) : pre0.Contents (Elt F) := fun
  | 0 => tab (ex R)
  | 1 => tab (rr R)
  | 2 => tab (kk R)
  | 3 => tab (ff R)
  | ⟨_ + 4, h⟩ => absurd h (Nat.not_lt.2 (Nat.le_add_left _ _))

/-- A grid point's visit. -/
abbrev vis (i : grid0.Coords) : ℕ := (i 2).val

theorem vis_lt (i : grid0.Coords) : vis i < 28 := (i 2).isLt
theorem crd1_lt (i : grid0.Coords) : (i 1).val < 2 := (i 1).isLt
theorem crd0_lt (i : grid0.Coords) : (i 0).val < 8 := (i 0).isLt

theorem off1_eq (i : grid0.Coords) : k0_off1 i = ![vis i] := by
  have h := vis_lt i
  funext a
  fin_cases a
  show (Scalar.indexCast (BitVec.ofNat 32 (i 2).val)).toNat = vis i
  revert h; unfold vis; generalize (i 2).val = n
  intro h
  have : ∀ n : Fin 28, (Scalar.indexCast (BitVec.ofNat 32 n.val)).toNat = n.val := by decide
  exact this ⟨n, h⟩

/-- The word that an index map reads of a table. -/
theorem at_tab (g : ℕ → ℕ) (i : grid0.Coords) (h1) :
    tab g ((Rect.unit (s := S28) (k0_off1 i) S1.size (k0_off1_inb i)).emb (Shape.Idx.first h1)) = BitVec.ofNat 32 (g (vis i)) := by
  unfold tab
  congr 2
  show (k0_off1 i) 0 + 0 = vis i
  rw [off1_eq]; rfl

theorem kw_tab (g : ℕ → ℕ) (i : grid0.Coords) : kw (F := F) (tab g) i = BitVec.ofNat 32 (g (vis i)) := at_tab g i _
theorem fw_tab (g : ℕ → ℕ) (i : grid0.Coords) : fw (F := F) (tab g) i = BitVec.ofNat 32 (g (vis i)) := at_tab g i _

theorem atD_tab (g : ℕ → ℕ) (i : grid0.Coords) (d : BitVec 32) (off : Fin 1 → ℕ) (ho : off = ![vis i]) :
    (if h : ∀ a, off a + 1 ≤ S28.size a then tab g (fun a => ⟨off a, h a⟩) else d) = BitVec.ofNat 32 (g (vis i)) := by
  subst ho
  rw [dif_pos]
  · rfl
  · intro a; fin_cases a; exact vis_lt i

theorem atD0 (R : Rows) (i : grid0.Coords) : (pfR (F := F) R).atD 1 (k0_off1 i) = BitVec.ofNat 32 (rr R (vis i)) := atD_tab (rr R) i _ _ (off1_eq i)
theorem atD2 (R : Rows) (i : grid0.Coords) : (pfR (F := F) R).atD 2 (k0_off1 i) = BitVec.ofNat 32 (kk R (vis i)) := atD_tab (kk R) i _ _ (off1_eq i)
theorem atD3 (R : Rows) (i : grid0.Coords) : (pfR (F := F) R).atD 3 (k0_off1 i) = BitVec.ofNat 32 (ff R (vis i)) := atD_tab (ff R) i _ _ (off1_eq i)

theorem muli_toNat (a b : ℕ) (h : a * b < 2 ^ 32) : (Scalar.muli (BitVec.ofNat 32 a) (BitVec.ofNat 32 b)).toNat = a * b := by
  show (BitVec.ofNat 32 a * BitVec.ofNat 32 b).toNat = a * b
  rw [← BitVec.ofNat_mul, BitVec.toNat_ofNat, Nat.mod_eq_of_lt h]

/-- The left block's place: the visit's first row, the feature tile. -/
theorem tr0 (R : Rows) (i : grid0.Coords) :
    cc0_transform_0 k0_off1_inb numel1_S1 (pfR (F := F) R) i = ![rr R (vis i), (i 1).val * 2560] := by
  have h := rr_le R (vis i)
  have h1 := crd1_lt i
  funext a
  fin_cases a
  · refine (congrArg BitVec.toNat (at_tab (rr R) i (numel1_S1.symm ▸ Nat.one_pos))).trans ?_
    rw [BitVec.toNat_ofNat, Nat.mod_eq_of_lt (by omega)]; rfl
  · exact muli_toNat _ 2560 (by omega)

/-- The right block's place. -/
theorem tr1 (R : Rows) (i : grid0.Coords) :
    cc0_transform_1 k0_off1_inb numel1_S1 (pfR (F := F) R) i = ![rr R (vis i), (i 0).val * 1024] := by
  have h := rr_le R (vis i)
  have h1 := crd0_lt i
  funext a
  fin_cases a
  · refine (congrArg BitVec.toNat (at_tab (rr R) i (numel1_S1.symm ▸ Nat.one_pos))).trans ?_
    rw [BitVec.toNat_ofNat, Nat.mod_eq_of_lt (by omega)]; rfl
  · exact muli_toNat _ 1024 (by omega)

/-- The output block's place: the group and the two tiles. -/
theorem tr2 (R : Rows) (i : grid0.Coords) :
    cc0_transform_2 k0_off1_inb numel1_S1 (pfR (F := F) R) i = ![ex R (vis i), (i 1).val, (i 0).val] := by
  have h := ex_lt R (vis i)
  have h1 := crd1_lt i
  have h0 := crd0_lt i
  funext a
  fin_cases a
  · refine (congrArg BitVec.toNat (at_tab (ex R) i (numel1_S1.symm ▸ Nat.one_pos))).trans ?_
    rw [BitVec.toNat_ofNat, Nat.mod_eq_of_lt (by omega)]; rfl
  · show (BitVec.ofNat 32 (i 1).val).toNat = _
    rw [BitVec.toNat_ofNat, Nat.mod_eq_of_lt (by omega)]; rfl
  · show (BitVec.ofNat 32 (i 0).val).toNat = _
    rw [BitVec.toNat_ofNat, Nat.mod_eq_of_lt (by omega)]; rfl

theorem rr_dvd (R : Rows) (v : ℕ) : (32 : Int) ∣ (BitVec.ofNat 32 (rr R v)).toInt := by
  have h := rr_le R v
  have h' := rr_mod R v
  rw [BitVec.toInt_eq_toNat_of_lt (by rw [BitVec.toNat_ofNat]; omega), BitVec.toNat_ofNat]
  omega

/-- What the region checks of the tables holds of the schedule's. -/
theorem ok_pfR (R : Rows) : ok0 (pfR (F := F) R) := by
  refine ⟨fun i => ?_, fun i => ?_, fun i => ⟨?_, Or.inr ?_⟩, fun i => ⟨?_, Or.inr ?_⟩, fun i => ⟨?_, Or.inl rfl⟩⟩
  · rw [show k0_mult1 (pfR (F := F) R) i = _ from atD0 R i]; exact rr_dvd R _
  · rw [show k0_mult3 (pfR (F := F) R) i = _ from atD0 R i]; exact rr_dvd R _
  · rw [tr0]; have := rr_le R (vis i); have := crd1_lt i
    intro a; fin_cases a
    · show rr R (vis i) + 512 ≤ 13312; omega
    · show (i 1).val * 2560 + 2560 ≤ 5120; omega
  · refine Or.inl ?_
    have h2 := rr_mod R (vis i)
    refine Affine.packed_dvd (by decide) ?_ (by decide)
    show EltTy.packing .bf16 ∣ cc0_transform_0 k0_off1_inb numel1_S1 (pfR (F := F) R) i 0
    rw [tr0]; show 2 ∣ rr R (vis i); omega
  · rw [tr1]; have := rr_le R (vis i); have := crd0_lt i
    intro a; fin_cases a
    · show rr R (vis i) + 512 ≤ 13312; omega
    · show (i 0).val * 1024 + 1024 ≤ 8192; omega
  · refine Or.inl ?_
    have h2 := rr_mod R (vis i)
    refine Affine.packed_dvd (by decide) ?_ (by decide)
    show EltTy.packing .bf16 ∣ cc0_transform_1 k0_off1_inb numel1_S1 (pfR (F := F) R) i 0
    rw [tr1]; show 2 ∣ rr R (vis i); omega
  · rw [tr2]; have := ex_lt R (vis i); have := crd0_lt i; have := crd1_lt i
    intro a; fin_cases a
    · show (ex R (vis i) + 1) * 1 ≤ 3; omega
    · show ((i 1).val + 1) * 2560 ≤ 5120; omega
    · show ((i 0).val + 1) * 1024 ≤ 8192; omega

/-- The schedule's tables, admitted. -/
def admR (R : Rows) : (pcfg0 (F := F)).Adm := ⟨pfR R, ok_pfR R⟩
/-- The pipeline at them. -/
abbrev cfgR (F : FTy → Type) [FloatOps F] (R : Rows) : Pipeline.Cfg sig Λ₀ := cfg0 (F := F) (admR R)

end Cert.Kernel.Hand

end
-- ==== Proof.KRun.lean ====
/- The pipeline at the schedule's tables: when its output window is written back and when a visit leaves it alone, what the output
   block holds after every visit, the body's obligation, and the run of the whole program from what the host operations leave. -/
module

public import proofs.«01_k».proof.Proof.KTables
public import Idealize.ShloMosaic.Lib.Pipeline.Frame
public import Idealize.ShloMosaic.Lib.Pipeline.Quiescent

@[expose] public section

set_option maxRecDepth 16384
set_option Elab.async false

noncomputable section

namespace Cert.Kernel.Hand

open Cert.Kernel Cert.Kernel.Gen Cert.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (R : Rows)

/-- Point `t`'s coordinates. -/
abbrev crd (t : Fin grid0.N) : grid0.Coords := grid0.coords t

theorem lt_448 (t : Fin grid0.N) : t.val < 448 := N_0 ▸ t.isLt

theorem crd2 (t : Fin grid0.N) : (crd t 2).val = t.val % 28 := by
  rw [Pipeline.Grid.coords_val t 2 (S := 1) (B := 28) (by decide) (by decide), Nat.div_one]
theorem crd1 (t : Fin grid0.N) : (crd t 1).val = t.val / 28 % 2 :=
  Pipeline.Grid.coords_val t 1 (S := 28) (B := 2) (by decide) (by decide)
theorem crd0 (t : Fin grid0.N) : (crd t 0).val = t.val / 56 := by
  rw [Pipeline.Grid.coords_val t 0 (S := 56) (B := 8) (by decide) (by decide)]
  have := lt_448 t; omega

/-- A visit at which the output block leaves: the last, or one whose successor belongs to another group. -/
abbrev Last (v : ℕ) : Prop := v = 27 ∨ ex R (v + 1) ≠ ex R v

theorem index2 (t : Fin grid0.N) : ((cfgR F R).win (2 : Fin 3)).index t = ![ex R (t.val % 28), t.val / 28 % 2, t.val / 56] := by
  show cc0_transform_2 k0_off1_inb numel1_S1 (pfR (F := F) R) (crd t) = _
  rw [tr2, crd1, crd0, show vis (crd t) = t.val % 28 from crd2 t]

/-- The output block is written back at a group's last visit. -/
theorem flush_iff (t : Fin grid0.N) : ((cfgR F R).win (2 : Fin 3)).flush t = true ↔ Last R (t.val % 28) := by
  have ht := lt_448 t
  unfold Window.flush
  rw [show ((cfgR F R).win (2 : Fin 3)).isOut = true from rfl, Bool.true_and, Bool.or_eq_true, decide_eq_true_iff, decide_eq_true_iff]
  have hN : (cfgR F R).grid.N = 448 := N_0
  constructor
  · rintro (h | ⟨h, hne⟩)
    · left; omega
    · rw [index2, index2] at hne
      by_contra hc
      rw [Last, not_or, not_not] at hc
      apply hne
      show ![ex R ((t.val + 1) % 28), (t.val + 1) / 28 % 2, (t.val + 1) / 56] = _
      rw [show (t.val + 1) % 28 = t.val % 28 + 1 by omega, hc.2, show (t.val + 1) / 28 % 2 = t.val / 28 % 2 by omega,
        show (t.val + 1) / 56 = t.val / 56 by omega]
  · intro h
    by_cases hl : t.val + 1 = (cfgR F R).grid.N
    · exact Or.inl hl
    · refine Or.inr ⟨by omega, fun he => ?_⟩
      rw [index2, index2] at he
      have e0 := congrFun he 0
      have e1 := congrFun he 1
      have e2 := congrFun he 2
      change ex R ((t.val + 1) % 28) = ex R (t.val % 28) at e0
      change (t.val + 1) / 28 % 2 = t.val / 28 % 2 at e1
      change (t.val + 1) / 56 = t.val / 56 at e2
      rcases h with h | h
      · omega
      · rw [show (t.val + 1) % 28 = t.val % 28 + 1 by omega] at e0
        exact h e0

theorem cond1_iff (v : ℕ) : k0_cond1 (BitVec.ofNat 32 (ff R v)) = 1#1 ↔ ff R v = 1 := by
  have : ff R v = 0 ∨ ff R v = 1 := by unfold ff; split_ifs <;> simp
  rcases this with h | h <;> rw [h] <;> decide

theorem cond2_nat : ∀ k : Fin 513, k0_cond2 (BitVec.ofNat 32 k.val) = 1#1 ↔ k.val = 512 := by decide +kernel
theorem cond3_nat : ∀ k : Fin 513, k0_cond3 (BitVec.ofNat 32 k.val) = 1#1 ↔ 0 < k.val ∧ k.val < 512 := by decide +kernel
theorem cond2_iff (v : ℕ) : k0_cond2 (BitVec.ofNat 32 (kk R v)) = 1#1 ↔ kk R v = 512 := cond2_nat ⟨kk R v, Nat.lt_succ_of_le (kk_le R v)⟩
theorem cond3_iff (v : ℕ) : k0_cond3 (BitVec.ofNat 32 (kk R v)) = 1#1 ↔ 0 < kk R v ∧ kk R v < 512 :=
  cond3_nat ⟨kk R v, Nat.lt_succ_of_le (kk_le R v)⟩

/-- A visit leaves the output block alone if it is not its group's first and takes no row. -/
theorem idle_iff (t : Fin grid0.N) :
    (cfgR F R).idle (2 : Fin 3) (crd t) = true ↔ ff R (t.val % 28) ≠ 1 ∧ kk R (t.val % 28) = 0 := by
  show (!(k0_cond1 ((pfR (F := F) R).atD 3 (k0_off1 (crd t))) == 1#1) && !(k0_cond2 ((pfR (F := F) R).atD 2 (k0_off1 (crd t))) == 1#1)
    && !(k0_cond3 ((pfR (F := F) R).atD 2 (k0_off1 (crd t))) == 1#1)) = true ↔ _
  rw [atD2, atD3, show vis (crd t) = t.val % 28 from crd2 t]
  have hk := kk_le R (t.val % 28)
  simp only [Bool.and_eq_true, Bool.not_eq_true', beq_eq_false_iff_ne, ne_eq, cond1_iff, cond2_iff, cond3_iff]
  omega

/-- The output block holds nothing stored exactly at a group's first visit. -/
theorem fresh_eq (n : ℕ) (hn : n < 448) : (cfgR F R).fresh (2 : Fin 3) n = decide (ff R (n % 28) = 1) := by
  have h := Pipeline.Cfg.fresh_tab (cfgR F R) (2 : Fin 3) (fun n => decide (ff R (n % 28) = 1)) (by simp [ff_zero]) (fun t => ?_) n
    (by rw [show (cfgR F R).N = 448 from N_0]; omega)
  · exact h
  · rw [Bool.eq_iff_iff, Bool.or_eq_true, Bool.and_eq_true, decide_eq_true_iff, decide_eq_true_iff]
    rw [show ((cfgR F R).win (2 : Fin 3)).flush t = true ↔ _ from flush_iff R t]
    rw [show (cfgR F R).idle (2 : Fin 3) ((cfgR F R).grid.coords t) = true ↔ _ from idle_iff R t]
    unfold Last
    by_cases h27 : t.val % 28 = 27
    · rw [show (t.val + 1) % 28 = 0 by omega]
      exact ⟨fun _ => Or.inl (Or.inl h27), fun _ => ff_zero R⟩
    · rw [show (t.val + 1) % 28 = t.val % 28 + 1 by omega, ff_succ]
      constructor
      · exact fun h => Or.inl (Or.inr h)
      · rintro ((h | h) | h)
        · exact absurd h h27
        · exact h
        · exact absurd h.2 h.1.1

/-! ## The output block after each visit -/

/-- The contents of the unscoped buffers when the pipeline begins. -/
abbrev Mem (F : FTy → Type) [FloatOps F] := (c : Dev nD) → (b : Ref sig .tc) → Buf (Elt F) ((c.tc : Thread nD τ).loc b)

variable (V : Mem F)

/-- The left block of point `t`. -/
def blkA (c : Dev nD) (t : Fin grid0.N) : S512x2560.Idx → Elt F .bf16 :=
  (((cfgR F R).win (0 : Fin 3)).blk t).view.read (Elt F) (V c (Pipeline.arrRef (cfgR F R).spec (0 : Fin 3)))
/-- The right block of point `t`. -/
def blkB (c : Dev nD) (t : Fin grid0.N) : S512x1024.Idx → Elt F .bf16 :=
  (((cfgR F R).win (1 : Fin 3)).blk t).view.read (Elt F) (V c (Pipeline.arrRef (cfgR F R).spec (1 : Fin 3)))

/-- What visit `t` makes of the output block. -/
def step (c : Dev nD) (t : Fin grid0.N) (o : S1x2560x1024.Idx → Elt F .f32) : S1x2560x1024.Idx → Elt F .f32 :=
  stepV (BitVec.ofNat 32 (kk R (t.val % 28))) (BitVec.ofNat 32 (ff R (t.val % 28))) (blkA R V c t) (blkB R V c t) o

/-- The output block after point `n`. -/
def traj (c : Dev nD) : (n : ℕ) → n < grid0.N → S1x2560x1024.Idx → Elt F .f32
  | 0, h => step R V c ⟨0, h⟩ k0_pay1
  | n + 1, h => step R V c ⟨n + 1, h⟩ (traj c n (Nat.lt_of_succ_lt h))

/-- The output block before point `t`. -/
def prev (c : Dev nD) (t : Fin grid0.N) : S1x2560x1024.Idx → Elt F .f32 :=
  if h : t.val = 0 then k0_pay1 else traj R V c (t.val - 1) (by have := t.isLt; omega)

theorem traj_eq (c : Dev nD) (t : Fin grid0.N) : traj R V c t.val t.isLt = step R V c t (prev R V c t) := by
  obtain ⟨n, hn⟩ := t
  cases n with
  | zero => rfl
  | succ n => unfold prev; simp only [Nat.add_one_ne_zero, dif_neg, not_false_eq_true]; rfl

/-- A group's first visit does not look at what the output block held. -/
theorem step_first (c : Dev nD) (t : Fin grid0.N) (h : ff R (t.val % 28) = 1) (o o') : step R V c t o = step R V c t o' := by
  unfold step stepV
  simp only [(cond1_iff R (t.val % 28)).mpr h, if_true]

/-- An idle visit changes nothing. -/
theorem step_idle (c : Dev nD) (t : Fin grid0.N) (h : ff R (t.val % 28) ≠ 1 ∧ kk R (t.val % 28) = 0) (o) : step R V c t o = o := by
  unfold step stepV
  have h1 : ¬ k0_cond1 (BitVec.ofNat 32 (ff R (t.val % 28))) = 1#1 := fun h' => h.1 ((cond1_iff R _).mp h')
  have h2 : ¬ k0_cond2 (BitVec.ofNat 32 (kk R (t.val % 28))) = 1#1 := fun h' => by have := (cond2_iff R _).mp h'; omega
  have h3 : ¬ k0_cond3 (BitVec.ofNat 32 (kk R (t.val % 28))) = 1#1 := fun h' => by have := (cond3_iff R _).mp h'; omega
  simp only [if_neg h1, if_neg h2, if_neg h3]

/-! ## The pipeline's proof data -/

/-- The proof data on core `c`: the arrays as they are when the pipeline begins, and what each window's buffer holds after a point. -/
def dats (_ : Fin 1) (c : Dev nD) : Dat τ (Elt F) Unit ℕ (UR sig nD τ) ℕ (cfgR F R) c where
  A w := V c (Pipeline.arrRef (cfgR F R).spec w)
  after w t := match w with
    | ⟨0, _⟩ => blkA R V c t
    | ⟨1, _⟩ => blkB R V c t
    | ⟨2, _⟩ => traj R V c t.val t.isLt
  Φ _ := iprop(Pipeline.ΦA (cfgR F R).spec c ∗ Pipeline.ΦT pre0 (pfR (F := F) R) c)
  q _ := fullShare
  owed _ := 0

theorem after_0 (c : Dev nD) (t : Fin grid0.N) : (dats R V 0 c).after (0 : Fin 3) t = blkA R V c t := rfl
theorem after_1 (c : Dev nD) (t : Fin grid0.N) : (dats R V 0 c).after (1 : Fin 3) t = blkB R V c t := rfl
theorem after_2 (c : Dev nD) (t : Fin grid0.N) : (dats R V 0 c).after (2 : Fin 3) t = traj R V c t.val t.isLt := rfl

theorem before_0 (c : Dev nD) (t : Fin grid0.N) (d) : (dats R V 0 c).before (0 : Fin 3) t d = blkA R V c t :=
  ((dats R V 0 c).before_in_eq_fetched (0 : Fin 3) rfl (fun _ => rfl) (fun _ _ _ => rfl) (fun t => by rw [after_0]; unfold Dat.blockOf blkA; rfl) t d).trans
    (by unfold Dat.fetched Dat.blockOf blkA; rfl)
theorem before_1 (c : Dev nD) (t : Fin grid0.N) (d) : (dats R V 0 c).before (1 : Fin 3) t d = blkB R V c t :=
  ((dats R V 0 c).before_in_eq_fetched (1 : Fin 3) rfl (fun _ => rfl) (fun _ _ _ => rfl) (fun t => by rw [after_1]; unfold Dat.blockOf blkB; rfl) t d).trans
    (by unfold Dat.fetched Dat.blockOf blkB; rfl)

theorem carry_2 (c : Dev nD) : ∀ (t : Fin (cfgR F R).N) (ht : t.val ≠ 0), (cfgR F R).idle (2 : Fin 3) ((cfgR F R).grid.coords t) = true →
    (cfgR F R).fresh (2 : Fin 3) t.val = false →
    (dats R V 0 c).after (2 : Fin 3) t = (dats R V 0 c).after (2 : Fin 3) ⟨t.val - 1, by omega⟩ := by
  intro t ht hi _
  rw [after_2, after_2, traj_eq, step_idle R V c t ((idle_iff R t).mp hi)]
  unfold prev; rw [dif_neg ht]

/-- What the output window's buffer holds when the body runs: anything at a group's first visit, else what the visit before left. -/
theorem before_2 (c : Dev nD) (t : Fin grid0.N) (d) :
    (dats R V 0 c).before (2 : Fin 3) t d = if ff R (t.val % 28) = 1 then d else prev R V c t := by
  rw [(dats R V 0 c).before_out_traj (2 : Fin 3) rfl (fun _ _ => rfl) (carry_2 R V c) t.val t rfl d, fresh_eq R t.val (lt_448 t)]
  by_cases hf : ff R (t.val % 28) = 1
  · simp only [hf, decide_true, if_true]
  · have h0 : t.val ≠ 0 := fun h0 => hf (by rw [h0]; exact ff_zero R)
    simp only [hf, decide_false, if_false, after_2, Bool.false_eq_true]; unfold prev; rw [dif_neg h0]

/-- What the body leaves is what the proof data says, whatever the buffer held. -/
theorem step_before (c : Dev nD) (t : Fin grid0.N) (d) :
    step R V c t ((dats R V 0 c).before (2 : Fin 3) t d) = traj R V c t.val t.isLt := by
  rw [before_2, traj_eq]
  split_ifs with h
  · exact step_first R V c t h _ _
  · rfl

/-! ## The body's obligation -/

abbrev ms0 (t : Fin grid0.N) : Memref sig .tc .vmem S512x2560 .bf16 := spec0_0.stage ((cfgR F R).slots t (0 : Fin 3))
abbrev hs0 (t : Fin grid0.N) : (ms0 (F := F) R t).IsWhole := hstage0_0 (((cfgR F R).slots t (0 : Fin 3)).cast nbuf0_0)
abbrev ms1 (t : Fin grid0.N) : Memref sig .tc .vmem S512x1024 .bf16 := spec0_1.stage ((cfgR F R).slots t (1 : Fin 3))
abbrev hs1 (t : Fin grid0.N) : (ms1 (F := F) R t).IsWhole := hstage0_1 (((cfgR F R).slots t (1 : Fin 3)).cast nbuf0_1)
abbrev ms2 (t : Fin grid0.N) : Memref sig .tc .vmem S1x2560x1024 .f32 := spec0_2.stage ((cfgR F R).slots t (2 : Fin 3))
abbrev hs2 (t : Fin grid0.N) : (ms2 (F := F) R t).IsWhole := hstage0_2 (((cfgR F R).slots t (2 : Fin 3)).cast nbuf0_2)

/-- The four tables one by one. -/
theorem tables_eq (c : Dev nD) (q : Fin 4 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v27) ↦{q 0} v 0) ∗ (((c : Thread nD τ).loc main_v58) ↦{q 1} v 1) ∗ (((c : Thread nD τ).loc main_v48) ↦{q 2} v 2) ∗ (((c : Thread nD τ).loc main_v62) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The body at point `t`, as the pipeline calls it. -/
abbrev bodyAt (t : Fin grid0.N) : Prog (TpuEff nD τ sig (Elt F) Λ₀ .tc) PUnit :=
  cc0_wgrad (crd t) tbE (Memref.isWhole_whole _) tbR (Memref.isWhole_whole _) tbK (Memref.isWhole_whole _) tbF (Memref.isWhole_whole _)
    (ms0 (F := F) R t) (hs0 (F := F) R t) (ms1 (F := F) R t) (hs1 (F := F) R t) (ms2 (F := F) R t) (hs2 (F := F) R t)

/-- The output block as the run leaves it is what the obligation asks of the output window, idle or not, written back or not. -/
theorem out_post (c : Dev nD) (t : Fin grid0.N) :
    (owns (c : Thread nD τ) (ms2 (F := F) R t) fullShare (traj R V c t.val t.isLt) : sProp 𝕄) ⊢
      (match (cfgR F R).idle (2 : Fin 3) ((cfgR F R).grid.coords t) with
        | true =>
          match ((cfgR F R).win (2 : Fin 3)).flush t with
          | false => iprop(∃ d, owns (c : Thread nD τ) (((cfgR F R).win (2 : Fin 3)).stage ((cfgR F R).slots t (2 : Fin 3))) fullShare ((dats R V 0 c).before (2 : Fin 3) t d))
          | true => owns (c : Thread nD τ) (((cfgR F R).win (2 : Fin 3)).stage ((cfgR F R).slots t (2 : Fin 3))) fullShare (traj R V c t.val t.isLt)
        | false => owns (c : Thread nD τ) (((cfgR F R).win (2 : Fin 3)).stage ((cfgR F R).slots t (2 : Fin 3))) fullShare (traj R V c t.val t.isLt)) := by
  rcases hi : (cfgR F R).idle (2 : Fin 3) ((cfgR F R).grid.coords t) with _ | _
  · exact .rfl
  · rcases hf : ((cfgR F R).win (2 : Fin 3)).flush t with _ | _
    · have e : (dats R V 0 c).before (2 : Fin 3) t k0_pay1 = traj R V c t.val t.isLt := by
        rw [← step_before R V c t k0_pay1, step_idle R V c t ((idle_iff R t).mp hi)]
      iintro H
      iexists k0_pay1
      rw [e]
      iexact H
    · exact .rfl

set_option maxHeartbeats 4000000 in
/-- The body at point `t`: from the windows' buffers to the same with the output block at `traj`. -/
theorem sound_body (c : Dev nD) (t : Fin grid0.N) :
    iprop((dats R V 0 c).Φ t.castSucc ∗ (dats R V 0 c).owesAt () t.castSucc
        ∗ (∃ d, owns (c : Thread nD τ) (ms0 (F := F) R t) fullShare ((dats R V 0 c).before (0 : Fin 3) t d))
        ∗ (∃ d, owns (c : Thread nD τ) (ms1 (F := F) R t) fullShare ((dats R V 0 c).before (1 : Fin 3) t d))
        ∗ (∃ d, owns (c : Thread nD τ) (ms2 (F := F) R t) fullShare ((dats R V 0 c).before (2 : Fin 3) t d)))
      ⊢ wp frame (wpE (defs₀ (F := F)) Variants.none c none) Set.univ (bodyAt (F := F) R t) fun _ =>
          iprop((dats R V 0 c).Φ t.succ ∗ (dats R V 0 c).owesAt () t.succ
            ∗ bigSep Finset.univ fun w : Fin (cfgR F R).W =>
                match (cfgR F R).idle w ((cfgR F R).grid.coords t) with
                | true =>
                  match ((cfgR F R).win w).flush t with
                  | false => iprop(∃ d, owns (c : Thread nD τ) (((cfgR F R).win w).stage ((cfgR F R).slots t w)) fullShare ((dats R V 0 c).before w t d))
                  | true => owns (c : Thread nD τ) (((cfgR F R).win w).stage ((cfgR F R).slots t w)) fullShare ((dats R V 0 c).after w t)
                | false => owns (c : Thread nD τ) (((cfgR F R).win w).stage ((cfgR F R).slots t w)) fullShare ((dats R V 0 c).after w t)) := by
  rw [bigSep_W0]
  simp only [before_0, before_1, after_0, after_1, after_2]
  rewrite [show (dats R V 0 c).Φ t.succ = iprop(Pipeline.ΦA (cfgR F R).spec c ∗ Pipeline.ΦT pre0 (pfR (F := F) R) c) from rfl,
    show (dats R V 0 c).Φ t.castSucc = iprop(Pipeline.ΦA (cfgR F R).spec c ∗ Pipeline.ΦT pre0 (pfR (F := F) R) c) from rfl,
    show (dats R V 0 c).owesAt () t.succ = (dats R V 0 c).owesAt () t.castSucc from rfl]
  unfold Pipeline.ΦT
  rw [tables_eq]
  have hrun : ∀ d, stepV (kw (F := F) (tab (kk R)) (crd t)) (fw (F := F) (tab (ff R)) (crd t)) (blkA R V c t) (blkB R V c t)
      ((dats R V 0 c).before (2 : Fin 3) t d) = traj R V c t.val t.isLt := fun d => by
    rw [kw_tab, fw_tab, show vis (crd t) = t.val % 28 from crd2 t]
    exact step_before R V c t d
  iintro ⟨⟨HA, HT0, HT1, HT2, HT3⟩, Ho, ⟨%d0, H0⟩, ⟨%d1, H1⟩, ⟨%d2, H2⟩⟩
  iapply (body_run c (crd t) (ms0 (F := F) R t) (hs0 (F := F) R t) (ms1 (F := F) R t) (hs1 (F := F) R t) (ms2 (F := F) R t) (hs2 (F := F) R t)
    (tab (ex R)) (tab (rr R)) (tab (kk R)) (tab (ff R)) (blkA R V c t) (blkB R V c t) ((dats R V 0 c).before (2 : Fin 3) t d2))
  isplitl [H0]; · iapply rep_of_owns; iexact H0
  isplitl [H1]; · iapply rep_of_owns; iexact H1
  isplitl [HT0]; · iexact HT0
  isplitl [HT1]; · iexact HT1
  isplitl [HT2]; · iexact HT2
  isplitl [HT3]; · iexact HT3
  isplitl [H2]; · iapply rep_of_owns; iexact H2
  rw [hrun d2]
  iintro ⟨H0, H1, HT0, HT1, HT2, HT3, H2⟩
  isplitl [HA HT0 HT1 HT2 HT3]
  · isplitl [HA]
    · iexact HA
    isplitl [HT0]
    · iexact HT0
    isplitl [HT1]
    · iexact HT1
    isplitl [HT2]
    · iexact HT2
    iexact HT3
  isplitl [Ho]; · iexact Ho
  isplitl [H0]
  · iapply owns_of_rep; iexact H0
  isplitl [H1]
  · iapply owns_of_rep; iexact H1
  iapply (out_post R V c t); iexact H2

/-- The body's obligation at every point. -/
theorem body_obligation (c : Dev nD) : BodyObligation (dats R V 0 c) (defs₀ (F := F)) Variants.none () Set.univ := fun t => by
  rw [bigSep_W0]
  exact sound_body R V c t

/-- Every window's array is held whole. -/
theorem share_eq (c : Dev nD) (w : Fin (cfgR F R).W) : (dats R V 0 c).share w = fullShare := by unfold Dat.share; split <;> rfl

/-- The fifteen stretches of host operations before the pipeline. -/
abbrev stretches (F : FTy → Type) [FloatOps F] : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14]

/-- What the buffers hold after the host operations. -/
def hostV (m : (ℓ : Loc nD τ sig) → Buf (Elt F) ℓ) : Mem F :=
  fun c b => StableHlo.after (stretches F).flatten (fun b => m (c, b)) b

theorem stretches_sub : (stretches F).Forall fun ops => ops.Forall fun op => op.bufs ⊆ StableHlo.tcRefs τ sig := by
  exact ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub⟩

theorem stretches_fresh : (stretches F).Forall fun ops => ops.Forall fun op => op.fresh = ∅ := by
  refine ⟨?_, ?_, ?_, ?_, ?_, ?_, ?_, ?_, ?_, ?_, ?_, ?_, ?_, ?_, ?_⟩ <;> repeat' constructor

variable (m : (ℓ : Loc nD τ sig) → Buf (Elt F) ℓ) (ρ : Dev nD → PrngReg)

set_option backward.isDefEq.respectTransparency.types false in
/-- The run of the whole program: if the host operations leave the schedule's tables, every array ends at what the proof data says,
    every other buffer at what the host operations left, and every counter at zero. -/
theorem run_main (hT : ∀ c k, hostV m c (pre0.ref k) = pfR (F := F) R k) :
    θ_run (defs (F := F)) (onTc (τ := τ) (main (F := F))) ⟨m, fun _ => 0, ρ⟩
      (fun r => Pipeline.FramePost (Pipeline.pin (pcfgs (F := F)) fun _ => admR R) (dats R (hostV m)) 0 (hostV m) r ∧ r.2.sem = fun _ => 0) :=
  Pipeline.θ_run_frameP (pcfgs (F := F)) (fun _ => admR R) (dats R (hostV m)) 0 launch0 defs₀ Variants.none m ρ main
    (hbody := fun c => (body_obligation R (hostV m) c).loose)
    (hshare := share_eq R (hostV m)) (howed := fun _ _ => rfl) (V := hostV m)
    (hmain := Pipeline.hmainP_prefixes pcfgs 0 defs₀ Variants.none m main (stretches F) stretches_sub stretches_fresh main_chain)
    (hA := fun _ _ => rfl) (hpf := hT) (hΦ := fun _ _ => rfl)
    (Q' := fun r => Pipeline.FramePost (Pipeline.pin (pcfgs (F := F)) fun _ => admR R) (dats R (hostV m)) 0 (hostV m) r ∧ r.2.sem = fun _ => 0)
    (hQ' := fun _ h => h)

end Cert.Kernel.Hand

end
-- ==== Proof.KHost.lean ====
/- What the host operations before the launch leave: the four tables of the schedule, from the three group sizes. -/
module

public import proofs.«01_k».proof.Proof.KRun
public import proofs.«01_k».proof.Proof.Pre
public import Idealize.ShloMosaic.Lib.StableHlo.ReadAt

@[expose] public section

set_option maxRecDepth 16384

noncomputable section

namespace Cert.Kernel.Hand

open Cert.Kernel Cert.Kernel.Gen Cert.Sched Cert.Words
open Idealize.ShloMosaic Idealize.ShloMosaic.ValueIdx Idealize.ShloMosaic.WordCmp
open Idealize.ShloMosaic.TcCoe

variable {F : FTy → Type} [FloatOps F]

section stages

variable (W : Valuation τ sig (Elt F)) (g : ℕ → ℕ)

theorem s0 (h : (W (Proc.devRef .tc main_arg0) : S3.Idx → BitVec 32) = wv g) :
    (StableHlo.after hostOps0 W (Proc.devRef .tc main_v3) : S3.Idx → BitVec 32) = wv fun e => g e + 31 := by
  funext x
  after_reads_at
  rw [h]
  show IntOp.subi (IntOp.addi (BitVec.ofNat 32 (g (x 0).val)) (BitVec.ofNat 32 32)) (BitVec.ofNat 32 1) = _
  rw [addi_ofNat, sub_word (by omega)]
  rfl

theorem s0c : (StableHlo.after hostOps0 W (Proc.devRef .tc main_c_1) : S_.Idx → BitVec 32) = fun _ => 32#32 := by
  funext x
  after_reads_at

theorem s1 (h : (W (Proc.devRef .tc main_v3) : S3.Idx → BitVec 32) = wv g) (hc : (W (Proc.devRef .tc main_c_1) : S_.Idx → BitVec 32) = fun _ => 32#32)
    (hg : ∀ x : S3.Idx, g (x 0).val < 2 ^ 31) :
    (StableHlo.after hostOps0_1 W (Proc.devRef .tc main_v4) : S3.Idx → BitVec 32) = wv fun e => g e / 32 := by
  funext x
  after_reads_at
  rw [h, hc]
  exact fdiv_word (a := g (x 0).val) (b := 32) (hg x) (by decide) (by decide)

theorem s2 (h : (W (Proc.devRef .tc main_v4) : S3.Idx → BitVec 32) = wv g) :
    (StableHlo.after hostOps0_2 W (Proc.devRef .tc main_v6) : S3.Idx → BitVec 32) = wv fun e => g e * 32 := by
  funext x
  after_reads_at
  rw [h]
  exact muli_ofNat (g (x 0).val) 32

theorem s3 (h : (W (Proc.devRef .tc main_v6) : S3.Idx → BitVec 32) = wv g) :
    (StableHlo.after hostOps0_3 W (Proc.devRef .tc main_v7) : S3.Idx → BitVec 32)
      = wv fun e => if e = 0 then g 0 else if e = 1 then g 0 + g 1 else g 0 + g 1 + g 2 := by
  funext x
  after_reads_at
  exact congrFun (cumsum3 _ g h _ (by rfl) _ _) x

theorem s4 (f : ℕ → ℕ) (h : (W (Proc.devRef .tc main_v6) : S3.Idx → BitVec 32) = wv g) (h' : (W (Proc.devRef .tc main_v7) : S3.Idx → BitVec 32) = wv f)
    (hg : ∀ x : S3.Idx, g (x 0).val ≤ f (x 0).val) :
    (StableHlo.after hostOps0_4 W (Proc.devRef .tc main_v8) : S3.Idx → BitVec 32) = wv fun e => f e - g e := by
  funext x
  after_reads_at
  rw [h, h']
  exact sub_word (hg x)

theorem s4' (h : (W (Proc.devRef .tc main_v6) : S3.Idx → BitVec 32) = wv g) :
    (StableHlo.after hostOps0_4 W (Proc.devRef .tc main_v12) : S3.Idx → BitVec 32) = wv fun e => g e + 511 := by
  funext x
  after_reads_at
  rw [h]
  show IntOp.subi (IntOp.addi (BitVec.ofNat 32 (g (x 0).val)) (BitVec.ofNat 32 512)) (BitVec.ofNat 32 1) = _
  rw [addi_ofNat, sub_word (by omega)]
  rfl

theorem s4c : (StableHlo.after hostOps0_4 W (Proc.devRef .tc main_c_5) : S_.Idx → BitVec 32) = fun _ => 512#32 := by
  funext x
  after_reads_at

theorem s5 (h : (W (Proc.devRef .tc main_v12) : S3.Idx → BitVec 32) = wv g) (hc : (W (Proc.devRef .tc main_c_5) : S_.Idx → BitVec 32) = fun _ => 512#32)
    (hg : ∀ x : S3.Idx, g (x 0).val < 2 ^ 31) :
    (StableHlo.after hostOps0_5 W (Proc.devRef .tc main_v13) : S3.Idx → BitVec 32) = wv fun e => g e / 512 := by
  funext x
  after_reads_at
  rw [h, hc]
  exact fdiv_word (a := g (x 0).val) (b := 512) (hg x) (by decide) (by decide)

theorem s6 (h : (W (Proc.devRef .tc main_v13) : S3.Idx → BitVec 32) = wv g) (hg : ∀ x : S3.Idx, g (x 0).val < 2 ^ 31) :
    (StableHlo.after hostOps0_6 W (Proc.devRef .tc main_v15) : S3.Idx → BitVec 32) = wv fun e => max (g e) 1 := by
  funext x
  after_reads_at
  rw [h]
  exact max_word (a := g (x 0).val) (b := 1) (hg x) (by decide)

theorem s7 (h : (W (Proc.devRef .tc main_v15) : S3.Idx → BitVec 32) = wv g) :
    (StableHlo.after hostOps0_7 W (Proc.devRef .tc main_v16) : S3.Idx → BitVec 32)
      = wv fun e => if e = 0 then g 0 else if e = 1 then g 0 + g 1 else g 0 + g 1 + g 2 := by
  funext x
  after_reads_at
  exact congrFun (cumsum3 _ g h _ (by rfl) _ _) x

theorem s8 (h : (W (Proc.devRef .tc main_v16) : S3.Idx → BitVec 32) = wv g) (h1 : 1 ≤ g 2) (hg : g 2 < 2 ^ 31) :
    (StableHlo.after hostOps0_8 W (Proc.devRef .tc main_v26) : S28.Idx → BitVec 32) = wv fun v => min v (g 2 - 1) := by
  funext x
  after_reads_at
  rw [h]
  show IntOp.minsi (BitVec.ofNat 32 (x 0).val) (IntOp.subi (BitVec.ofNat 32 (g 2)) (BitVec.ofNat 32 1)) = _
  rw [sub_word h1, min_word (by have : (x 0).val < 28 := (x 0).isLt; omega) (by omega)]
  rfl

theorem s8' (h : (W (Proc.devRef .tc main_v16) : S3.Idx → BitVec 32) = wv g) (hg : g 2 < 2 ^ 31) :
    (StableHlo.after hostOps0_8 W (Proc.devRef .tc main_v21) : S28.Idx → BitVec 1) = fun x => BitVec.ofBool (decide ((x 0).val < g 2)) := by
  funext x
  after_reads_at
  rw [h]
  exact cmpi_slt_ofNat (w := 32) (by have : (x 0).val < 28 := (x 0).isLt; omega) hg

theorem s9 (w : ℕ → ℕ) (h : (W (Proc.devRef .tc main_v16) : S3.Idx → BitVec 32) = wv g) (hw : (W (Proc.devRef .tc main_v26) : S28.Idx → BitVec 32) = wv w)
    (hg : ∀ p : Fin 3, g p.val < 2 ^ 31) (hg' : ∀ q : Fin 28, w q.val < 2 ^ 31) :
    (StableHlo.after hostOps0_9 W (Proc.devRef .tc main_v27) : S28.Idx → BitVec 32)
      = wv fun v => (if g 0 ≤ w v then 1 else 0) + (if g 1 ≤ w v then 1 else 0) + (if g 2 ≤ w v then 1 else 0) := by
  funext x
  after_reads_at
  refine congrFun (count3 _ g w (fun p q => ?_) _ _) x
  rw [h, hw]
  exact cmpi_sle_ofNat (w := 32) (hg p) (hg' q)

/-- The lookup of a group's entry in a table of three, at the visit's group. -/
theorem look (x : S3.Idx → BitVec 32) (t e : ℕ → ℕ) (y z : S28.Idx → BitVec 32) (hx : x = wv t) (hz : z = wv e) (he : ∀ q : Fin 28, e q.val < 3) :
    Host.gather gather_S3_S28x1_S28_n_0_n_n_0_1_1 x
      (broadcastInDim S28x1 ![0] bcast_S28_S28x1_0
        (select (cmpi CmpIPredicate.slt z (broadcastInDim S28 ![] bcast_S_S28 (constantI S_ 32 0#32))) y z))
      = wv fun v => t (e v) := by
  subst hx hz
  funext j
  refine (take3 _ rfl rfl rfl rfl t _ j (k := e (j 0).val) (he (j 0)) ?_).trans rfl
  exact wrap_word _ (by have := he (j 0); show e (j 0).val < 2 ^ 31; exact lt_trans this (by decide))

theorem s10 (en cn w e : ℕ → ℕ) (h16 : (W (Proc.devRef .tc main_v16) : S3.Idx → BitVec 32) = wv en)
    (h15 : (W (Proc.devRef .tc main_v15) : S3.Idx → BitVec 32) = wv cn)
    (h26 : (W (Proc.devRef .tc main_v26) : S28.Idx → BitVec 32) = wv w) (h27 : (W (Proc.devRef .tc main_v27) : S28.Idx → BitVec 32) = wv e)
    (he : ∀ q : Fin 28, e q.val < 3) (hc : ∀ p : Fin 3, cn p.val ≤ en p.val) (hw : ∀ q : Fin 28, en (e q.val) - cn (e q.val) ≤ w q.val) :
    (StableHlo.after hostOps0_10 W (Proc.devRef .tc main_v36) : S28.Idx → BitVec 32) = wv fun v => w v - (en (e v) - cn (e v)) := by
  funext x
  after_reads_at
  rw [look _ (fun p => en p - cn p) e _ _ ?_ h27 he, h26]
  · exact sub_word (hw (x 0))
  · rw [h16, h15]
    funext j
    exact sub_word (hc (j 0))

theorem s10' (en cn w e r : ℕ → ℕ) (h6 : (W (Proc.devRef .tc main_v6) : S3.Idx → BitVec 32) = wv r)
    (h16 : (W (Proc.devRef .tc main_v16) : S3.Idx → BitVec 32) = wv en) (h15 : (W (Proc.devRef .tc main_v15) : S3.Idx → BitVec 32) = wv cn)
    (h26 : (W (Proc.devRef .tc main_v26) : S28.Idx → BitVec 32) = wv w) (h27 : (W (Proc.devRef .tc main_v27) : S28.Idx → BitVec 32) = wv e)
    (he : ∀ q : Fin 28, e q.val < 3) (hc : ∀ p : Fin 3, cn p.val ≤ en p.val) (hw : ∀ q : Fin 28, en (e q.val) - cn (e q.val) ≤ w q.val)
    (hr : ∀ q : Fin 28, (w q.val - (en (e q.val) - cn (e q.val))) * 512 ≤ r (e q.val)) :
    (StableHlo.after hostOps0_10 W (Proc.devRef .tc main_v46) : S28.Idx → BitVec 32)
      = wv fun v => r (e v) - (w v - (en (e v) - cn (e v))) * 512 := by
  funext x
  after_reads_at
  rw [look _ r e _ _ h6 h27 he, look _ (fun p => en p - cn p) e _ _ ?_ h27 he, h26]
  · show IntOp.subi (BitVec.ofNat 32 (r (e (x 0).val))) (IntOp.muli (IntOp.subi (BitVec.ofNat 32 (w (x 0).val))
      (BitVec.ofNat 32 (en (e (x 0).val) - cn (e (x 0).val)))) (BitVec.ofNat 32 512)) = _
    rw [sub_word (hw (x 0)), muli_ofNat, sub_word (hr (x 0))]
    rfl
  · rw [h16, h15]
    funext j
    exact sub_word (hc (j 0))

theorem s10c : (StableHlo.after hostOps0_10 W (Proc.devRef .tc main_c_13) : S_.Idx → BitVec 32) = fun _ => 0#32 := by
  funext x
  after_reads_at

theorem s10c' : (StableHlo.after hostOps0_10 W (Proc.devRef .tc main_c_14) : S_.Idx → BitVec 32) = fun _ => 512#32 := by
  funext x
  after_reads_at

theorem s11 (h : (W (Proc.devRef .tc main_v46) : S28.Idx → BitVec 32) = wv g) (hg : ∀ q : Fin 28, g q.val < 2 ^ 31)
    (h13 : (W (Proc.devRef .tc main_c_13) : S_.Idx → BitVec 32) = fun _ => 0#32) (h14 : (W (Proc.devRef .tc main_c_14) : S_.Idx → BitVec 32) = fun _ => 512#32) :
    (StableHlo.after hostOps0_11 W (Proc.devRef .tc main_v47) : S28.Idx → BitVec 32) = wv fun v => min (g v) 512 := by
  funext x
  after_reads_at
  rw [h, h13, h14]
  show IntOp.minsi (BitVec.ofNat 32 512) (IntOp.maxsi (BitVec.ofNat 32 0) (BitVec.ofNat 32 (g (x 0).val))) = _
  rw [max_word (by decide) (hg (x 0)), min_word (by decide) (by have : g (x 0).val < 2 ^ 31 := hg (x 0); omega), Nat.zero_max, Nat.min_comm]
  rfl

theorem s12c : (StableHlo.after hostOps0_12 W (Proc.devRef .tc main_c_15) : S_.Idx → BitVec 32) = fun _ => 0#32 := by
  funext x
  after_reads_at

theorem s13 (n : ℕ) (h : (W (Proc.devRef .tc main_v47) : S28.Idx → BitVec 32) = wv g)
    (h21 : (W (Proc.devRef .tc main_v21) : S28.Idx → BitVec 1) = fun x => BitVec.ofBool (decide ((x 0).val < n)))
    (h15 : (W (Proc.devRef .tc main_c_15) : S_.Idx → BitVec 32) = fun _ => 0#32) :
    (StableHlo.after hostOps0_13 W (Proc.devRef .tc main_v48) : S28.Idx → BitVec 32) = wv fun v => if v < n then g v else 0 := by
  funext x
  after_reads_at
  rw [h, h21, h15]
  show Scalar.select (BitVec.ofBool (decide ((x 0).val < n))) (BitVec.ofNat 32 (g (x 0).val)) (BitVec.ofNat 32 0) = BitVec.ofNat 32 (if (x 0).val < n then _ else _)
  rw [select_decide]
  split_ifs <;> rfl

theorem s14 (i e st : ℕ → ℕ) (h8 : (W (Proc.devRef .tc main_v8) : S3.Idx → BitVec 32) = wv st)
    (h27 : (W (Proc.devRef .tc main_v27) : S28.Idx → BitVec 32) = wv e) (he : ∀ q : Fin 28, e q.val < 3)
    (h36 : (W (Proc.devRef .tc main_v36) : S28.Idx → BitVec 32) = wv i) :
    (StableHlo.after hostOps0_14 W (Proc.devRef .tc main_v58) : S28.Idx → BitVec 32) = wv fun v => st (e v) + i v * 512 := by
  funext x
  after_reads_at
  rw [look _ st e _ _ h8 h27 he, h36]
  show IntOp.addi (BitVec.ofNat 32 (st (e (x 0).val))) (IntOp.muli (BitVec.ofNat 32 (i (x 0).val)) (BitVec.ofNat 32 512)) = _
  rw [muli_ofNat, addi_ofNat]
  rfl

theorem s14' (n : ℕ) (i : ℕ → ℕ) (h21 : (W (Proc.devRef .tc main_v21) : S28.Idx → BitVec 1) = fun x => BitVec.ofBool (decide ((x 0).val < n)))
    (h36 : (W (Proc.devRef .tc main_v36) : S28.Idx → BitVec 32) = wv i) (hi : ∀ q : Fin 28, i q.val < 2 ^ 31) :
    (StableHlo.after hostOps0_14 W (Proc.devRef .tc main_v62) : S28.Idx → BitVec 32) = wv fun v => if v < n ∧ i v = 0 then 1 else 0 := by
  funext x
  after_reads_at
  rw [h21, h36]
  show (IntOp.andi (BitVec.ofBool (decide ((x 0).val < n))) (IntOp.cmpi .eq (BitVec.ofNat 32 (i (x 0).val)) (BitVec.ofNat 32 0))).setWidth 32
    = BitVec.ofNat 32 (if (x 0).val < n ∧ i (x 0).val = 0 then 1 else 0)
  have : i (x 0).val < 2 ^ 31 := hi (x 0)
  rw [cmpi_eq_ofNat (w := 32) (by omega) (by decide), andi_ofBool]
  by_cases h1 : (x 0).val < n <;> by_cases h2 : i (x 0).val = 0 <;> simp [h1, h2]

end stages

/-! The valuations after each stretch of host operations, in order. -/

section chain

variable (V : Valuation τ sig (Elt F))

abbrev A0 : Valuation τ sig (Elt F) := StableHlo.after hostOps0 V
abbrev A1 : Valuation τ sig (Elt F) := StableHlo.after hostOps0_1 (A0 V)
abbrev A2 : Valuation τ sig (Elt F) := StableHlo.after hostOps0_2 (A1 V)
abbrev A3 : Valuation τ sig (Elt F) := StableHlo.after hostOps0_3 (A2 V)
abbrev A4 : Valuation τ sig (Elt F) := StableHlo.after hostOps0_4 (A3 V)
abbrev A5 : Valuation τ sig (Elt F) := StableHlo.after hostOps0_5 (A4 V)
abbrev A6 : Valuation τ sig (Elt F) := StableHlo.after hostOps0_6 (A5 V)
abbrev A7 : Valuation τ sig (Elt F) := StableHlo.after hostOps0_7 (A6 V)
abbrev A8 : Valuation τ sig (Elt F) := StableHlo.after hostOps0_8 (A7 V)
abbrev A9 : Valuation τ sig (Elt F) := StableHlo.after hostOps0_9 (A8 V)
abbrev A10 : Valuation τ sig (Elt F) := StableHlo.after hostOps0_10 (A9 V)
abbrev A11 : Valuation τ sig (Elt F) := StableHlo.after hostOps0_11 (A10 V)
abbrev A12 : Valuation τ sig (Elt F) := StableHlo.after hostOps0_12 (A11 V)
abbrev A13 : Valuation τ sig (Elt F) := StableHlo.after hostOps0_13 (A12 V)
abbrev A14 : Valuation τ sig (Elt F) := StableHlo.after hostOps0_14 (A13 V)

theorem after_stretches : StableHlo.after (stretches F).flatten V = A14 V := by
  simp only [stretches, List.flatten_cons, List.flatten_nil, List.append_nil, StableHlo.after_append]

theorem keep0 : A14 V (Proc.devRef .tc main_arg0) = V (Proc.devRef .tc main_arg0) := by after_reads_simp
theorem keep1 : A14 V (Proc.devRef .tc main_arg1) = V (Proc.devRef .tc main_arg1) := by after_reads_simp
theorem keep2 : A14 V (Proc.devRef .tc main_arg2) = V (Proc.devRef .tc main_arg2) := by after_reads_simp

end chain

theorem wv_congr {n : ℕ} {f g : ℕ → ℕ} (h : ∀ v < n, f v = g v) : (wv f : (Routing.shape1 n).Idx → BitVec 32) = wv g := by
  funext x
  show BitVec.ofNat 32 (f (x 0).val) = BitVec.ofNat 32 (g (x 0).val)
  rw [h _ (x 0).isLt]

theorem lt3 {P : ℕ → Prop} (h0 : P 0) (h1 : P 1) (h2 : P 2) : ∀ p < 3, P p := by
  intro p hp
  have : p = 0 ∨ p = 1 ∨ p = 2 := by omega
  rcases this with rfl | rfl | rfl <;> assumption

theorem at3 {P : ℕ → Prop} (h : ∀ p < 3, P p) (x : S3.Idx) : P (x 0).val := h _ (x 0).isLt

section schedule

variable (R : Rows)

theorem row_le (e : ℕ) : row R e ≤ 12384 := by
  have := R.fits
  unfold row; split_ifs <;> omega

theorem it_le (v : ℕ) : it R v * 512 ≤ row R (ex R v) := by
  have := total_pos R
  rcases ex_cases R v with ⟨h, h'⟩ | ⟨h, h', h''⟩ | ⟨h, h', h''⟩ <;> unfold it <;> rw [h] <;>
    simp only [row_0, row_1, row_2, base_0, base_1, base_2] <;> unfold cnt at * <;> omega

theorem base_le (v : ℕ) : base R (ex R v) ≤ vv R v := by
  rcases ex_cases R v with ⟨h, h'⟩ | ⟨h, h', h''⟩ | ⟨h, h', h''⟩ <;> rw [h] <;>
    simp only [base_0, base_1, base_2] <;> omega

theorem vv_lt (v : ℕ) : vv R v < 27 := by
  have := total_pos R; have := total_le R
  unfold vv; omega

end schedule

section

variable (V : Valuation τ sig (Elt F)) (g : ℕ → ℕ) (hg : Sizes g) (h : (V (Proc.devRef .tc main_arg0) : S3.Idx → BitVec 32) = wv g)

include h

theorem rows_after : (A2 V (Proc.devRef .tc main_v6) : S3.Idx → BitVec 32) = wv (row (rowsOf g hg)) := by
  have b := hg.le0; have b1 := hg.le1; have b2 := hg.le2
  have h3 := s0 V g h
  have h4 := s1 (A0 V) _ h3 (s0c V) (at3 (P := fun n => g n + 31 < 2 ^ 31) (lt3 (by omega) (by omega) (by omega)))
  exact (s2 (A1 V) _ h4).trans (wv_congr (lt3 rfl rfl rfl))

theorem start_after : (A4 V (Proc.devRef .tc main_v8) : S3.Idx → BitVec 32) = wv (start (rowsOf g hg)) := by
  have h6 := rows_after V g hg h
  have h7 := s3 (A2 V) _ h6
  have h6' : (A3 V (Proc.devRef .tc main_v6) : S3.Idx → BitVec 32) = wv (row (rowsOf g hg)) := Eq.trans (by after_reads_simp) h6
  refine (s4 (A3 V) _ _ h6' h7 (fun x => lt3 (P := fun e => row (rowsOf g hg) e ≤ if e = 0 then row (rowsOf g hg) 0
    else if e = 1 then row (rowsOf g hg) 0 + row (rowsOf g hg) 1 else row (rowsOf g hg) 0 + row (rowsOf g hg) 1 + row (rowsOf g hg) 2)
    ?_ ?_ ?_ _ (x 0).isLt)).trans (wv_congr (lt3 ?_ ?_ ?_)) <;>
    simp only [row_0, row_1, row_2, start_0, start_1, start_2, one_ne_zero, if_true, if_false, OfNat.ofNat_ne_zero, OfNat.ofNat_ne_one] <;> omega

theorem cnt_after : (A6 V (Proc.devRef .tc main_v15) : S3.Idx → BitVec 32) = wv fun e => cnt (row (rowsOf g hg) e) := by
  have h6 := rows_after V g hg h
  have h6' : (A3 V (Proc.devRef .tc main_v6) : S3.Idx → BitVec 32) = wv (row (rowsOf g hg)) := Eq.trans (by after_reads_simp) h6
  have h12 := s4' (A3 V) _ h6'
  have h13 := s5 (A4 V) _ h12 (s4c (A3 V)) (fun x => by have := row_le (rowsOf g hg) (x 0).val; omega)
  exact s6 (A5 V) _ h13 (fun x => by have := row_le (rowsOf g hg) (x 0).val; omega)

theorem end_after : (A7 V (Proc.devRef .tc main_v16) : S3.Idx → BitVec 32)
    = wv fun e => base (rowsOf g hg) e + cnt (row (rowsOf g hg) e) := by
  refine (s7 (A6 V) _ (cnt_after V g hg h)).trans (wv_congr (lt3 ?_ ?_ ?_)) <;>
    simp only [row_0, row_1, row_2, base_0, base_1, base_2, one_ne_zero, if_true, if_false, OfNat.ofNat_ne_zero, OfNat.ofNat_ne_one] <;> omega

theorem vv_after : (A8 V (Proc.devRef .tc main_v26) : S28.Idx → BitVec 32) = wv (vv (rowsOf g hg)) := by
  have := total_pos (rowsOf g hg); have := total_le (rowsOf g hg)
  refine s8 (A7 V) _ (end_after V g hg h) ?_ ?_
  · show 1 ≤ total _; omega
  · show total _ < _; omega

theorem live_after : (A8 V (Proc.devRef .tc main_v21) : S28.Idx → BitVec 1) = fun x => BitVec.ofBool (decide ((x 0).val < total (rowsOf g hg))) := by
  have := total_le (rowsOf g hg)
  exact s8' (A7 V) _ (end_after V g hg h) (by show total _ < _; omega)

theorem ex_after : (A9 V (Proc.devRef .tc main_v27) : S28.Idx → BitVec 32) = wv (ex (rowsOf g hg)) := by
  have ht := total_pos (rowsOf g hg); have ht' := total_le (rowsOf g hg)
  have h16 : (A8 V (Proc.devRef .tc main_v16) : S3.Idx → BitVec 32) = _ := Eq.trans (by after_reads_simp) (end_after V g hg h)
  refine (s9 (A8 V) _ _ h16 (vv_after V g hg h) (fun p => ?_) (fun q => ?_)).trans (wv_congr fun v _ => ?_)
  · refine lt3 (P := fun p => base (rowsOf g hg) p + cnt (row (rowsOf g hg) p) < 2 ^ 31) ?_ ?_ ?_ p.val p.isLt <;>
      simp only [row_0, row_1, row_2, base_0, base_1, base_2] <;> unfold total at ht' <;> omega
  · have := vv_lt (rowsOf g hg) q.val; omega
  · have hv : vv (rowsOf g hg) v < total (rowsOf g hg) := by unfold vv; omega
    have e0 : base (rowsOf g hg) 0 + cnt (row (rowsOf g hg) 0) = cnt (rowsOf g hg).r0 := by rw [base_0, row_0, zero_add]
    have e1 : base (rowsOf g hg) 1 + cnt (row (rowsOf g hg) 1) = cnt (rowsOf g hg).r0 + cnt (rowsOf g hg).r1 := by rw [base_1, row_1]
    have e2 : base (rowsOf g hg) 2 + cnt (row (rowsOf g hg) 2) = cnt (rowsOf g hg).r0 + cnt (rowsOf g hg).r1 + cnt (rowsOf g hg).r2 := by
      rw [base_2, row_2]
    unfold total at hv
    beta_reduce
    rcases ex_cases (rowsOf g hg) v with ⟨h, h'⟩ | ⟨h, h', h''⟩ | ⟨h, h', h''⟩ <;> rw [h]
    · rw [if_neg (by omega), if_neg (by omega), if_neg (by omega)]
    · rw [if_pos (by omega), if_neg (by omega), if_neg (by omega)]
    · rw [if_pos (by omega), if_pos (by omega), if_neg (by omega)]

theorem it_after : (A10 V (Proc.devRef .tc main_v36) : S28.Idx → BitVec 32) = wv (it (rowsOf g hg)) := by
  have h16 : (A9 V (Proc.devRef .tc main_v16) : S3.Idx → BitVec 32) = _ := Eq.trans (by after_reads_simp) (end_after V g hg h)
  have h15 : (A9 V (Proc.devRef .tc main_v15) : S3.Idx → BitVec 32) = _ := Eq.trans (by after_reads_simp) (cnt_after V g hg h)
  have h26 : (A9 V (Proc.devRef .tc main_v26) : S28.Idx → BitVec 32) = _ := Eq.trans (by after_reads_simp) (vv_after V g hg h)
  refine (s10 (A9 V) _ _ _ _ h16 h15 h26 (ex_after V g hg h) (fun q => ex_lt _ _) (fun p => Nat.le_add_left _ _) (fun q => ?_)).trans
    (wv_congr fun v _ => ?_)
  · have := base_le (rowsOf g hg) q.val; omega
  · simp only [it, Nat.add_sub_cancel]

theorem rest_after : (A10 V (Proc.devRef .tc main_v46) : S28.Idx → BitVec 32)
    = wv fun v => row (rowsOf g hg) (ex (rowsOf g hg) v) - it (rowsOf g hg) v * 512 := by
  have h6 : (A9 V (Proc.devRef .tc main_v6) : S3.Idx → BitVec 32) = _ := Eq.trans (by after_reads_simp) (rows_after V g hg h)
  have h16 : (A9 V (Proc.devRef .tc main_v16) : S3.Idx → BitVec 32) = _ := Eq.trans (by after_reads_simp) (end_after V g hg h)
  have h15 : (A9 V (Proc.devRef .tc main_v15) : S3.Idx → BitVec 32) = _ := Eq.trans (by after_reads_simp) (cnt_after V g hg h)
  have h26 : (A9 V (Proc.devRef .tc main_v26) : S28.Idx → BitVec 32) = _ := Eq.trans (by after_reads_simp) (vv_after V g hg h)
  refine (s10' (A9 V) _ _ _ _ _ h6 h16 h15 h26 (ex_after V g hg h) (fun q => ex_lt _ _) (fun p => Nat.le_add_left _ _) (fun q => ?_) (fun q => ?_)).trans
    (wv_congr fun v _ => ?_)
  · have := base_le (rowsOf g hg) q.val; omega
  · have := it_le (rowsOf g hg) q.val
    unfold it at this
    rw [Nat.add_sub_cancel]
    exact this
  · simp only [it, Nat.add_sub_cancel]

theorem kk_after : (A13 V (Proc.devRef .tc main_v48) : S28.Idx → BitVec 32) = wv (kk (rowsOf g hg)) := by
  have h47 := s11 (A10 V) _ (rest_after V g hg h) (fun q => by have := row_le (rowsOf g hg) (ex (rowsOf g hg) q.val); omega)
    (s10c (A9 V)) (s10c' (A9 V))
  have h47' : (A12 V (Proc.devRef .tc main_v47) : S28.Idx → BitVec 32) = _ := Eq.trans (by after_reads_simp) h47
  have h21 : (A12 V (Proc.devRef .tc main_v21) : S28.Idx → BitVec 1) = _ := Eq.trans (by after_reads_simp) (live_after V g hg h)
  refine (s13 (A12 V) _ _ h47' h21 (s12c (A11 V))).trans (wv_congr fun v _ => ?_)
  simp only [kk, Nat.mul_comm 512]

theorem rr_after : (A14 V (Proc.devRef .tc main_v58) : S28.Idx → BitVec 32) = wv (rr (rowsOf g hg)) := by
  have h8 : (A13 V (Proc.devRef .tc main_v8) : S3.Idx → BitVec 32) = _ := Eq.trans (by after_reads_simp) (start_after V g hg h)
  have h27 : (A13 V (Proc.devRef .tc main_v27) : S28.Idx → BitVec 32) = _ := Eq.trans (by after_reads_simp) (ex_after V g hg h)
  have h36 : (A13 V (Proc.devRef .tc main_v36) : S28.Idx → BitVec 32) = _ := Eq.trans (by after_reads_simp) (it_after V g hg h)
  refine (s14 (A13 V) _ _ _ h8 h27 (fun q => ex_lt _ _) h36).trans (wv_congr fun v _ => ?_)
  simp only [rr, Nat.mul_comm 512]

theorem ff_after : (A14 V (Proc.devRef .tc main_v62) : S28.Idx → BitVec 32) = wv (ff (rowsOf g hg)) := by
  have h21 : (A13 V (Proc.devRef .tc main_v21) : S28.Idx → BitVec 1) = _ := Eq.trans (by after_reads_simp) (live_after V g hg h)
  have h36 : (A13 V (Proc.devRef .tc main_v36) : S28.Idx → BitVec 32) = _ := Eq.trans (by after_reads_simp) (it_after V g hg h)
  exact s14' (A13 V) _ _ h21 h36 (fun q => by have := vv_lt (rowsOf g hg) q.val; unfold it; omega)

theorem tables_after (k) : A14 V (pre0.ref k) = pfR (F := F) (rowsOf g hg) k := by
  have h27 : (A14 V (Proc.devRef .tc main_v27) : S28.Idx → BitVec 32) = _ := Eq.trans (by after_reads_simp) (ex_after V g hg h)
  have h48 : (A14 V (Proc.devRef .tc main_v48) : S28.Idx → BitVec 32) = _ := Eq.trans (by after_reads_simp) (kk_after V g hg h)
  fin_cases k
  · exact h27
  · exact rr_after V g hg h
  · exact h48
  · exact ff_after V g hg h

end

variable (m : (ℓ : Loc nD τ sig) → Buf (Elt F) ℓ) (ρ : Dev nD → PrngReg)

/-- The host operations leave the schedule's tables. -/
theorem hostV_tables (g : ℕ → ℕ) (hg : Sizes g) (c : Dev nD)
    (h : (m ((c.tc : Thread nD τ).loc main_arg0) : S3.Idx → BitVec 32) = wv g) (k) : hostV m c (pre0.ref k) = pfR (F := F) (rowsOf g hg) k :=
  (congrFun (after_stretches (F := F) fun b => m (c, b)) (Proc.devRef .tc (pre0.ref k))).trans (tables_after (fun b => m (c, b)) g hg h k)

theorem hostV_arg0 (c : Dev nD) : hostV m c main_arg0 = m ((c.tc : Thread nD τ).loc main_arg0) :=
  (congrFun (after_stretches (F := F) fun b => m (c, b)) (Proc.devRef .tc main_arg0)).trans (keep0 _)
theorem hostV_arg1 (c : Dev nD) : hostV m c main_arg1 = m ((c.tc : Thread nD τ).loc main_arg1) :=
  (congrFun (after_stretches (F := F) fun b => m (c, b)) (Proc.devRef .tc main_arg1)).trans (keep1 _)
theorem hostV_arg2 (c : Dev nD) : hostV m c main_arg2 = m ((c.tc : Thread nD τ).loc main_arg2) :=
  (congrFun (after_stretches (F := F) fun b => m (c, b)) (Proc.devRef .tc main_arg2)).trans (keep2 _)

/-- The run from sizes that fit: the result's array ends at what the proof data says, the arguments unchanged, every counter zero. -/
theorem run_sizes (g : ℕ → ℕ) (hg : Sizes g) (h : ∀ c : Dev nD, (m ((c.tc : Thread nD τ).loc main_arg0) : S3.Idx → BitVec 32) = wv g) :
    θ_run (defs (F := F)) (onTc (τ := τ) (main (F := F))) ⟨m, fun _ => 0, ρ⟩
      (fun r => (∀ c : Dev nD,
        r.2.mem ((c.tc : Thread nD τ).loc main_v63) = (dats (rowsOf g hg) (hostV m) 0 c).arrAt 2 (cfgR F (rowsOf g hg)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  refine (θ_run (defs (F := F)) _ _).mono (fun r hr => ⟨fun c => ?_, hr.2⟩) (run_main (rowsOf g hg) m ρ fun c k => hostV_tables m g hg c (h c) k)
  obtain ⟨ha, hb⟩ := hr.1 c
  refine ⟨ha 2, (hb main_arg0 ?_).trans (hostV_arg0 m c), (ha 0).trans ?_, (ha 1).trans ?_⟩
  · refine Pipeline.mem_restRefs_of main_arg0 rfl fun w => ?_
    have k : ∀ w : Fin 3, (spec0 w).arr.view.ref ≠ main_arg0 := by decide
    exact k w
  · exact ((dats (rowsOf g hg) (hostV m) 0 c).arrAt_in 0 rfl _).trans (hostV_arg1 m c)
  · exact ((dats (rowsOf g hg) (hostV m) 0 c).arrAt_in 1 rfl _).trans (hostV_arg2 m c)

end Cert.Kernel.Hand
end
-- ==== Proof.Value.lean ====
/- What the kernel's program leaves over the extended reals: every element of the result is the sum, over its group's rows, of the
   products of the two operands' elements. The output block after each visit is that sum over the rows taken so far. -/
module

public import proofs.«01_k».proof.Proof.Host
public import Idealize.ShloMosaic.Lib.Pointwise
public import Idealize.ShloMosaic.Lib.WordCmp
public import Idealize.ShloMosaic.Lib.Pipeline.Value
public import Idealize.ShloMosaic.Lib.Pipeline.ValueKit.Geometry

@[expose] public section

set_option maxRecDepth 16384
set_option Elab.async false

noncomputable section

namespace Cert.KernelIdeal.Hand

open Cert.KernelIdeal Cert.KernelIdeal.Gen Cert.Sched
open Idealize.ShloMosaic Idealize.ShloMosaic.TcCoe
open Idealize.ShloMosaic.Pipeline (Dat)
open scoped BigOperators

/-! ## The body's payloads at an index -/

/-- The cleared block is zero. -/
theorem pay1_apply (j : S1x2560x1024.Idx) : (k0_pay1 (F := Ideal)) j = 0 := by
  pointwise [k0_pay1]

/-- A full visit adds the product of the two blocks. -/
theorem pay2_apply (o : Vec Ideal S1x2560x1024 .f32) (a : Vec Ideal S512x2560 .bf16) (b : Vec Ideal S512x1024 .bf16) (d : Fin 2560) (f : Fin 1024) :
    k0_pay2 o a b (ix3 0 d f) = (o (ix3 0 d f) + ∑ k : Fin 512, a (ix2 k d) * b (ix2 k f) : EReal) := by
  pointwise [k0_pay2]

/-- A partial visit adds the product of the two blocks' first rows. -/
theorem pay3_apply (n : ℕ) (hn : n ≤ 512) (o : Vec Ideal S1x2560x1024 .f32) (a : Vec Ideal S512x2560 .bf16) (b : Vec Ideal S512x1024 .bf16)
    (d : Fin 2560) (f : Fin 1024) :
    k0_pay3 (BitVec.ofNat 32 n) a b o (ix3 0 d f)
      = (o (ix3 0 d f) + ∑ k : Fin 512, (if k.val < n then a (ix2 k d) * b (ix2 k f) else 0) : EReal) := by
  pointwise [k0_pay3]
  refine congrArg (o (ix3 0 d f) + ·) (Finset.sum_congr rfl fun k _ => ?_)
  have hk := k.isLt
  rw [WordCmp.cmpi_slt_ofNat (by omega) (by omega)]
  by_cases h : k.val < n <;> simp [h, Scalar.select]

/-! ## The operands as functions of two numbers -/

/-- The left operand, zero outside its bounds. -/
def lhsN (A : S13312x5120.Idx → EReal) (t d : ℕ) : EReal := if h : t < 13312 ∧ d < 5120 then A (ix2 ⟨t, h.1⟩ ⟨d, h.2⟩) else 0
/-- The right operand, zero outside its bounds. -/
def rhsN (B : S13312x8192.Idx → EReal) (t f : ℕ) : EReal := if h : t < 13312 ∧ f < 8192 then B (ix2 ⟨t, h.1⟩ ⟨f, h.2⟩) else 0
/-- The product of row `t`'s elements at columns `d` and `f`. -/
def prodN (A : S13312x5120.Idx → EReal) (B : S13312x8192.Idx → EReal) (d f t : ℕ) : EReal := lhsN A t d * rhsN B t f

variable (R : Rows) (V : Mem Ideal)

/-- The left block is the left operand's rows from the visit's first, at the feature tile. -/
theorem blkA_apply (c : Dev nD) (t : Fin grid0.N) (k : Fin 512) (d : Fin 2560) :
    blkA R V c t (ix2 k d) = lhsN (V c main_arg1) (rr R (t.val % 28) + k.val) (t.val / 28 % 2 * 2560 + d.val) := by
  have hr := rr_le R (t.val % 28)
  have e := tr0 (F := Ideal) R (crd t)
  rw [show vis (crd t) = t.val % 28 from crd2 t, crd1 t] at e
  unfold lhsN
  rw [dif_pos ⟨by omega, by omega⟩]
  refine congrArg (V c main_arg1) (funext fun a => Fin.ext ?_)
  refine (ValueKit.view_emb_slice_whole_unit_val main_arg1 _ _ _ _ a).trans ?_
  fin_cases a
  · exact congrArg (· + k.val) (congrFun e 0)
  · exact congrArg (· + d.val) (congrFun e 1)

/-- The right block is the right operand's rows from the visit's first, at the column tile. -/
theorem blkB_apply (c : Dev nD) (t : Fin grid0.N) (k : Fin 512) (f : Fin 1024) :
    blkB R V c t (ix2 k f) = rhsN (V c main_arg2) (rr R (t.val % 28) + k.val) (t.val / 56 * 1024 + f.val) := by
  have hr := rr_le R (t.val % 28)
  have ht := lt_448 t
  have e := tr1 (F := Ideal) R (crd t)
  rw [show vis (crd t) = t.val % 28 from crd2 t, crd0 t] at e
  unfold rhsN
  rw [dif_pos ⟨by omega, by omega⟩]
  refine congrArg (V c main_arg2) (funext fun a => Fin.ext ?_)
  refine (ValueKit.view_emb_slice_whole_unit_val main_arg2 _ _ _ _ a).trans ?_
  fin_cases a
  · exact congrArg (· + k.val) (congrFun e 0)
  · exact congrArg (· + f.val) (congrFun e 1)

/-- What a visit leaves at an element: what was there, or zero at a group's first visit, and the products of the visit's rows. -/
theorem step_apply (c : Dev nD) (t : Fin grid0.N) (o : Vec Ideal S1x2560x1024 .f32) (d : Fin 2560) (f : Fin 1024) :
    step R V c t o (ix3 0 d f) = (if ff R (t.val % 28) = 1 then 0 else o (ix3 0 d f))
      + ∑ x ∈ Finset.range (kk R (t.val % 28)),
          prodN (V c main_arg1) (V c main_arg2) (t.val / 28 % 2 * 2560 + d.val) (t.val / 56 * 1024 + f.val) (rr R (t.val % 28) + x) := by
  have hk := kk_le R (t.val % 28)
  have hmul : ∀ k : Fin 512, blkA R V c t (ix2 k d) * blkB R V c t (ix2 k f)
      = prodN (V c main_arg1) (V c main_arg2) (t.val / 28 % 2 * 2560 + d.val) (t.val / 56 * 1024 + f.val) (rr R (t.val % 28) + k.val) := fun k => by
    rw [blkA_apply, blkB_apply]; rfl
  have ho : (if k0_cond1 (BitVec.ofNat 32 (ff R (t.val % 28))) = 1#1 then k0_pay1 (F := Ideal) else o : Vec Ideal S1x2560x1024 .f32) (ix3 0 d f)
      = (if ff R (t.val % 28) = 1 then 0 else o (ix3 0 d f)) := by
    by_cases h : ff R (t.val % 28) = 1
    · rw [if_pos ((cond1_iff R _).mpr h), if_pos h, pay1_apply]
    · rw [if_neg fun h' => h ((cond1_iff R _).mp h'), if_neg h]
  unfold step stepV
  rw [← ho]
  generalize (if k0_cond1 (BitVec.ofNat 32 (ff R (t.val % 28))) = 1#1 then k0_pay1 (F := Ideal) else o) = o1
  generalize prodN (V c main_arg1) (V c main_arg2) (t.val / 28 % 2 * 2560 + d.val) (t.val / 56 * 1024 + f.val) = P at hmul ⊢
  have hc2 := cond2_iff R (t.val % 28)
  have hc3 := cond3_iff R (t.val % 28)
  generalize rr R (t.val % 28) = r at hmul ⊢
  rcases (by omega : kk R (t.val % 28) = 512 ∨ (0 < kk R (t.val % 28) ∧ kk R (t.val % 28) < 512) ∨ kk R (t.val % 28) = 0) with h | h | h
  · have h3 : ¬ k0_cond3 (BitVec.ofNat 32 (kk R (t.val % 28))) = 1#1 := fun h' => by have := hc3.mp h'; omega
    simp only [if_pos (hc2.mpr h), if_neg h3]
    rw [pay2_apply, h, ← Fin.sum_univ_eq_sum_range (fun x => P (r + x)) 512]
    exact congrArg _ (Finset.sum_congr rfl fun k _ => hmul k)
  · have h2 : ¬ k0_cond2 (BitVec.ofNat 32 (kk R (t.val % 28))) = 1#1 := fun h' => by have := hc2.mp h'; omega
    simp only [if_pos (hc3.mpr h), if_neg h2]
    rw [pay3_apply _ hk]
    simp only [hmul]
    rw [Fin.sum_univ_eq_sum_range (fun x => if x < kk R (t.val % 28) then P (r + x) else 0) 512, ← Finset.sum_filter]
    refine congrArg _ (Finset.sum_congr (Finset.ext fun x => ?_) fun _ _ => rfl)
    simp only [Finset.mem_filter, Finset.mem_range]; omega
  · have h2 : ¬ k0_cond2 (BitVec.ofNat 32 (kk R (t.val % 28))) = 1#1 := fun h' => by have := hc2.mp h'; omega
    have h3 : ¬ k0_cond3 (BitVec.ofNat 32 (kk R (t.val % 28))) = 1#1 := fun h' => by have := hc3.mp h'; omega
    simp only [if_neg h2, if_neg h3]
    rw [h, Finset.sum_range_zero, add_zero]

theorem step_at (c : Dev nD) (n : ℕ) (h : n < grid0.N) (o : Vec Ideal S1x2560x1024 .f32) (d : Fin 2560) (f : Fin 1024) :
    step R V c ⟨n, h⟩ o (ix3 0 d f) = (if ff R (n % 28) = 1 then 0 else o (ix3 0 d f))
      + ∑ x ∈ Finset.range (kk R (n % 28)),
          prodN (V c main_arg1) (V c main_arg2) (n / 28 % 2 * 2560 + d.val) (n / 56 * 1024 + f.val) (rr R (n % 28) + x) :=
  step_apply R V c ⟨n, h⟩ o d f

theorem traj_zero (c : Dev nD) (h : 0 < grid0.N) : traj R V c 0 h = step R V c ⟨0, h⟩ (k0_pay1 (F := Ideal)) := rfl
theorem traj_succ (c : Dev nD) (n : ℕ) (h : n + 1 < grid0.N) :
    traj R V c (n + 1) h = step R V c ⟨n + 1, h⟩ (traj R V c n (Nat.lt_of_succ_lt h)) := rfl

/-- The output block after a visit: the products of its group's rows taken so far. -/
theorem traj_apply (c : Dev nD) (d : Fin 2560) (f : Fin 1024) (n : ℕ) (h : n < grid0.N) :
    traj R V c n h (ix3 0 d f) = ∑ x ∈ Finset.range (cov R (n % 28)),
      prodN (V c main_arg1) (V c main_arg2) (n / 28 % 2 * 2560 + d.val) (n / 56 * 1024 + f.val) (start R (ex R (n % 28)) + x) := by
  induction n with
  | zero =>
    obtain ⟨e1, e2⟩ := cov_first R (0 % 28) (by rw [Nat.zero_mod]; exact ff_zero R)
    rw [traj_zero, step_at, if_pos (by rw [Nat.zero_mod]; exact ff_zero R), zero_add, e1, ← e2]
  | succ n ih =>
    rw [traj_succ, step_at]
    by_cases hf : ff R ((n + 1) % 28) = 1
    · obtain ⟨e1, e2⟩ := cov_first R _ hf
      rw [if_pos hf, zero_add, e1, ← e2]
    · have hm : (n + 1) % 28 = n % 28 + 1 := by
        rcases Nat.eq_zero_or_pos ((n + 1) % 28) with h0 | h0
        · exact absurd (by rw [h0]; exact ff_zero R) hf
        · omega
      rw [if_neg hf, ih (Nat.lt_of_succ_lt h), hm]
      rw [hm] at hf
      have he : ex R (n % 28 + 1) = ex R (n % 28) := Decidable.byContradiction fun h => hf ((ff_succ R _).mpr h)
      obtain ⟨e1, e2⟩ := cov_succ R _ hf
      rw [show (n + 1) / 28 % 2 = n / 28 % 2 by omega, show (n + 1) / 56 = n / 56 by omega, e1, Finset.sum_range_add, he]
      refine congrArg _ (Finset.sum_congr rfl fun x hx => ?_)
      rw [e2 (by have := Finset.mem_range.mp hx; omega), he, Nat.add_assoc]

/-! ## The result array -/

/-- The result: at group `e`, the products of the group's rows summed. -/
def dwN (A : S13312x5120.Idx → EReal) (B : S13312x8192.Idx → EReal) (e d f : ℕ) : EReal :=
  ∑ x ∈ Finset.range (row R e), prodN A B d f (start R e + x)
/-- The result array. -/
def dwV (c : Dev nD) : S3x5120x8192.Idx → EReal := fun j => dwN R (V c main_arg1) (V c main_arg2) (j 0).val (j 1).val (j 2).val

/-- Where an element of a point's output block lies in the result. -/
theorem emb2 (t : Fin grid0.N) (y : S1x2560x1024.Idx) :
    ((((cfgR Ideal R).win (2 : Fin 3)).blk t).view.emb y (0 : Fin 3)).val = ex R (t.val % 28) ∧
    ((((cfgR Ideal R).win (2 : Fin 3)).blk t).view.emb y (1 : Fin 3)).val = t.val / 28 % 2 * 2560 + (y 1).val ∧
    ((((cfgR Ideal R).win (2 : Fin 3)).blk t).view.emb y (2 : Fin 3)).val = t.val / 56 * 1024 + (y 2).val := by
  have e := tr2 (F := Ideal) R (crd t)
  rw [show vis (crd t) = t.val % 28 from crd2 t, crd1 t, crd0 t] at e
  have h0 : (y 0).val < 1 := (y 0).isLt
  refine ⟨?_, ?_, ?_⟩
  · refine (ValueKit.view_emb_slice_whole_unit_val main_v63 _ _ _ _ _).trans ?_
    refine (congrArg (fun z => z * 1 + (y 0).val) (congrFun e 0)).trans ?_
    show ex R (t.val % 28) * 1 + _ = _; omega
  · refine (ValueKit.view_emb_slice_whole_unit_val main_v63 _ _ _ _ _).trans ?_
    exact congrArg (fun z => z * 2560 + (y 1).val) (congrFun e 1)
  · refine (ValueKit.view_emb_slice_whole_unit_val main_v63 _ _ _ _ _).trans ?_
    exact congrArg (fun z => z * 1024 + (y 2).val) (congrFun e 2)

/-- The output block after a group's last visit is its block of the result. -/
theorem last_eq (c : Dev nD) (t : Fin grid0.N) (hl : Last R (t.val % 28)) (y : S1x2560x1024.Idx) :
    traj R V c t.val t.isLt y = dwV R V c ((((cfgR Ideal R).win (2 : Fin 3)).blk t).view.emb y) := by
  obtain ⟨e0, e1, e2⟩ := emb2 R t y
  have h0 : (y 0).val < 1 := (y 0).isLt
  have hy : y = ix3 0 (y 1) (y 2) :=
    (ix3_eta (n0 := 1) (n1 := 2560) (n2 := 1024) y).symm.trans
      (congrArg (fun z : Fin 1 => ix3 z (y 1) (y 2)) (Fin.ext (by show (y 0).val = 0; omega)))
  have ht := traj_apply R V c (y 1) (y 2) t.val t.isLt
  rw [cov_last R _ hl] at ht
  refine (congrArg (traj R V c t.val t.isLt) hy).trans (ht.trans ?_)
  show dwN R (V c main_arg1) (V c main_arg2) (ex R (t.val % 28)) (t.val / 28 % 2 * 2560 + (y 1).val) (t.val / 56 * 1024 + (y 2).val)
    = dwN R (V c main_arg1) (V c main_arg2) _ _ _
  exact congr (congr (congrArg (dwN R (V c main_arg1) (V c main_arg2)) e0.symm) e1.symm) e2.symm

/-- What a group's last visit writes back is its block of the result. -/
theorem flushed_eq (c : Dev nD) (t : Fin (cfgR Ideal R).N) (hf : ((cfgR Ideal R).win (2 : Fin 3)).flush t = true) :
    (dats R V 0 c).flushed (2 : Fin 3) t = (((cfgR Ideal R).win (2 : Fin 3)).blk t).view.read (Elt Ideal) (dwV R V c) :=
  funext fun y => last_eq R V c t ((flush_iff R t).mp hf) y

/-- Every element of the result is in a block that a group's last visit writes back. -/
theorem cover (j : S3x5120x8192.Idx) :
    ∃ t : Fin (cfgR Ideal R).N, ((cfgR Ideal R).win (2 : Fin 3)).flush t = true ∧ j ∈ (((cfgR Ideal R).win (2 : Fin 3)).blk t).view.set := by
  have h0 : (j 0).val < 3 := (j 0).isLt
  have h1 : (j 1).val < 5120 := (j 1).isLt
  have h2 : (j 2).val < 8192 := (j 2).isLt
  obtain ⟨v, hv, hx, hl⟩ := exists_last R (j 0).val h0
  have hN : (cfgR Ideal R).N = 448 := N_0
  let t : Fin (cfgR Ideal R).N := ⟨(j 2).val / 1024 * 56 + (j 1).val / 2560 * 28 + v, by omega⟩
  have ht : t.val = (j 2).val / 1024 * 56 + (j 1).val / 2560 * 28 + v := rfl
  refine ⟨t, (flush_iff R t).mpr (by rw [show t.val % 28 = v by omega]; exact hl), ?_⟩
  let y : S1x2560x1024.Idx := ix3 0 ⟨(j 1).val % 2560, by omega⟩ ⟨(j 2).val % 1024, by omega⟩
  obtain ⟨e0, e1, e2⟩ := emb2 R t y
  have he : (((cfgR Ideal R).win (2 : Fin 3)).blk t).view.emb y = j := by
    funext a
    apply Fin.ext
    fin_cases a
    · refine e0.trans ?_; rw [show t.val % 28 = v by omega]; exact hx
    · refine e1.trans ?_; show t.val / 28 % 2 * 2560 + (j 1).val % 2560 = (j 1).val; omega
    · refine e2.trans ?_; show t.val / 56 * 1024 + (j 2).val % 1024 = (j 2).val; omega
  rw [← he]
  exact View.emb_mem_set _ y

/-- After the run the result array holds the sums. -/
theorem final_eq (c : Dev nD) : (dats R V 0 c).arrAt (2 : Fin 3) (cfgR Ideal R).N = dwV R V c :=
  (dats R V 0 c).arrAt_eq_of_cover (2 : Fin 3) (dwV R V c) (flushed_eq R V c) (cover R)

end Cert.KernelIdeal.Hand

end
-- ==== Proof.RefValue.lean ====
/- What the plain program leaves over the extended reals: every element of the result is the sum, over its group's rows, of the
   products of the two operands' elements, the rows outside the group being masked to zero. -/
module

public import proofs.«01_k».proof.Proof.Gen.ReferenceIdeal.Run
public import proofs.«01_k».proof.Proof.Value
public import Idealize.ShloMosaic.Lib.FinSumWindow
public import Idealize.ShloMosaic.Lib.IdealHost

@[expose] public section

set_option maxRecDepth 16384
set_option Elab.async false

noncomputable section

namespace Cert.ReferenceIdeal.Hand

open Cert.ReferenceIdeal Cert.ReferenceIdeal.Gen Cert.Sched Cert.Words
open Idealize.ShloMosaic Idealize.ShloMosaic.WordCmp Idealize.ShloMosaic.TcCoe
open Cert.KernelIdeal.Hand (lhsN rhsN prodN dwN)
open scoped BigOperators

/-! ## The result's term by parts -/

/-- The groups' sizes in blocks of 32 rows, rounded up. -/
def blocksT (x : IVec S3 32) : IVec S3 32 :=
  select (andi (cmpi .ne (signi (addi x (broadcastInDim S3 ![] bcast_S_S3 (constantI S_ 32 31#32)))) (broadcastInDim S3 ![] bcast_S_S3 (signi (id (constantI S_ 32 32#32))))) (cmpi .ne (Host.remsi (addi x (broadcastInDim S3 ![] bcast_S_S3 (constantI S_ 32 31#32))) (broadcastInDim S3 ![] bcast_S_S3 (id (constantI S_ 32 32#32)))) (broadcastInDim S3 ![] bcast_S_S3 (constantI S_ 32 0#32)))) (subi (Host.divsi (addi x (broadcastInDim S3 ![] bcast_S_S3 (constantI S_ 32 31#32))) (broadcastInDim S3 ![] bcast_S_S3 (id (constantI S_ 32 32#32)))) (broadcastInDim S3 ![] bcast_S_S3 (constantI S_ 32 1#32))) (Host.divsi (addi x (broadcastInDim S3 ![] bcast_S_S3 (constantI S_ 32 31#32))) (broadcastInDim S3 ![] bcast_S_S3 (id (constantI S_ 32 32#32))))
/-- The groups' row counts. -/
def rowsT (x : IVec S3 32) : IVec S3 32 := muli (broadcastInDim S3 ![] bcast_S_S3 (constantI S_ 32 32#32)) (blocksT x)
/-- The rows at which the groups end. -/
def endsT (x : IVec S3 32) : IVec S3 32 :=
  Host.reduceWindow IntOp.addi ![3] ![1] ![2] ![0] (rowsT x) (broadcastInDim S_ ![] bcast_S_S_ (constantI S_ 32 0#32)) reduceWindows_S3_S3_w3s1p2_0 h_S_
/-- Which rows belong to which group, from the groups' first rows and ends. -/
def maskT (s e : IVec S3 32) : IVec S3x13312 1 :=
  andi (cmpi .sle (broadcastInDim S3x13312 ![0, 1] bcast_S3x1_S3x13312_0_1 (broadcastInDim S3x1 ![0] bcast_S3_S3x1_0 s)) (broadcastInDim S3x13312 ![0, 1] bcast_S1x13312_S3x13312_0_1 (broadcastInDim S1x13312 ![1] bcast_S13312_S1x13312_1 (iotaInDim S13312 32 0))))
    (cmpi .slt (broadcastInDim S3x13312 ![0, 1] bcast_S1x13312_S3x13312_0_1 (broadcastInDim S1x13312 ![1] bcast_S13312_S1x13312_1 (iotaInDim S13312 32 0))) (broadcastInDim S3x13312 ![0, 1] bcast_S3x1_S3x13312_0_1 (broadcastInDim S3x1 ![0] bcast_S3_S3x1_0 e)))
/-- The product of the masked left operand with the right one. -/
def dotT (k : IVec S3x13312 1) (A : FVec Ideal S13312x5120 .bf16) (B : FVec Ideal S13312x8192 .bf16) : FVec Ideal S3x5120x8192 .f32 :=
  Host.dotGeneral dot_S3x13312x5120_S13312x8192_S3x5120x8192_1_0_02_1_n_n none (select (broadcastInDim S3x13312x5120 ![0, 1, 2] bcast_S3x13312x1_S3x13312x5120_0_1_2 (broadcastInDim S3x13312x1 ![0, 1] bcast_S3x13312_S3x13312x1_0_1 k)) (broadcastInDim S3x13312x5120 ![0, 1, 2] bcast_S1x13312x5120_S3x13312x5120_0_1_2 (broadcastInDim S1x13312x5120 ![1, 2] bcast_S13312x5120_S1x13312x5120_1_2 A)) (broadcastInDim S3x13312x5120 ![] bcast_S_S3x13312x5120 (constant S_ .bf16 0x0000#16))) B

theorem res_eq (m : (ℓ : Loc nD τ sig) → Buf (Elt Ideal) ℓ) (c : Dev nD) :
    Value.res_main_v24 m c = dotT (maskT (subi (endsT (m ((c.tc : Thread nD τ).loc main_arg0))) (rowsT (m ((c.tc : Thread nD τ).loc main_arg0)))) (endsT (m ((c.tc : Thread nD τ).loc main_arg0))))
      (m ((c.tc : Thread nD τ).loc main_arg1)) (m ((c.tc : Thread nD τ).loc main_arg2)) := rfl

/-! ## The parts' values -/

variable (g : ℕ → ℕ) (hg : Sizes g)

include hg in
theorem size_le (x : S3.Idx) : g (x 0).val ≤ 12288 := by
  have := hg.le0; have := hg.le1; have := hg.le2
  have hx : (x 0).val < 3 := (x 0).isLt
  rcases (by omega : (x 0).val = 0 ∨ (x 0).val = 1 ∨ (x 0).val = 2) with h | h | h <;> rw [h] <;> assumption

include hg in
theorem blocks_eq : blocksT (wv g) = wv fun e => (g e + 31) / 32 := by
  funext x
  have hx := size_le g hg x
  have e : addi (wv g : IVec S3 32) (broadcastInDim S3 ![] bcast_S_S3 (constantI S_ 32 31#32)) = wv fun e => g e + 31 := by
    funext y
    exact addi_ofNat (g (y 0).val) 31
  unfold blocksT
  rw [e]
  exact fdiv_word (a := g (x 0).val + 31) (b := 32) (by omega) (by decide) (by decide)

include hg in
theorem rows_eq : rowsT (wv g) = wv (up g) := by
  funext x
  have hx := size_le g hg x
  unfold rowsT
  rw [blocks_eq g hg]
  refine Eq.trans (b := IntOp.muli (BitVec.ofNat 32 32) (BitVec.ofNat 32 ((g (x 0).val + 31) / 32))) rfl ?_
  rw [muli_ofNat, Nat.mul_comm]
  rfl

include hg in
theorem ends_eq : endsT (wv g) = wv fun e => start (rowsOf g hg) e + row (rowsOf g hg) e := by
  unfold endsT
  rw [rows_eq g hg]
  refine (cumsum3 _ (up g) rfl _ (by rfl) _ _).trans ?_
  funext x
  have hx : (x 0).val < 3 := (x 0).isLt
  refine congrArg (BitVec.ofNat 32) ?_
  beta_reduce
  rcases (by omega : (x 0).val = 0 ∨ (x 0).val = 1 ∨ (x 0).val = 2) with h | h | h <;> rw [h] <;>
    simp only [start_0, start_1, start_2, row_0, row_1, row_2, rowsOf] <;> simp

include hg in
theorem starts_eq : subi (endsT (wv g)) (rowsT (wv g)) = wv (start (rowsOf g hg)) := by
  rw [ends_eq g hg, rows_eq g hg]
  funext x
  have hx : (x 0).val < 3 := (x 0).isLt
  have e : row (rowsOf g hg) (x 0).val = up g (x 0).val := by
    rcases (by omega : (x 0).val = 0 ∨ (x 0).val = 1 ∨ (x 0).val = 2) with h | h | h <;> rw [h] <;> rfl
  refine (sub_word (a := start (rowsOf g hg) (x 0).val + row (rowsOf g hg) (x 0).val) (b := up g (x 0).val) (by omega)).trans ?_
  rw [e, Nat.add_sub_cancel]
  rfl

/-- A row belongs to a group if it is from the group's first row on and before its end. -/
theorem mask_apply (s e : ℕ → ℕ) (hs : ∀ p : Fin 3, s p.val < 2 ^ 31) (he : ∀ p : Fin 3, e p.val < 2 ^ 31) (p : Fin 3) (t : Fin 13312) :
    maskT (wv s) (wv e) (ix2 p t) = BitVec.ofBool (decide (s p.val ≤ t.val ∧ t.val < e p.val)) := by
  have ht := t.isLt
  refine Eq.trans (b := IntOp.andi (IntOp.cmpi .sle (BitVec.ofNat 32 (s p.val)) (BitVec.ofNat 32 t.val))
    (IntOp.cmpi .slt (BitVec.ofNat 32 t.val) (BitVec.ofNat 32 (e p.val)))) (by pointwise [maskT]; rfl) ?_
  rw [cmpi_sle_ofNat (hs p) (by omega), cmpi_slt_ofNat (by omega) (he p), andi_ofBool, ← Bool.decide_and]

/-- The product at an index: the sum over all rows, the masked ones giving zero. -/
theorem dot_apply (k : IVec S3x13312 1) (A : FVec Ideal S13312x5120 .bf16) (B : FVec Ideal S13312x8192 .bf16) (e : Fin 3) (d : Fin 5120) (f : Fin 8192) :
    dotT k A B (ix3 e d f) = (∑ t : Fin 13312, Scalar.select (k (ix2 e t)) (A (ix2 t d) * B (ix2 t f)) 0 : EReal) := by
  pointwise [dotT]

/-- The sum over all rows with those outside the group masked is the sum over the group's rows. -/
theorem value_apply (A : FVec Ideal S13312x5120 .bf16) (B : FVec Ideal S13312x8192 .bf16) (j : S3x5120x8192.Idx) :
    dotT (maskT (subi (endsT (wv g)) (rowsT (wv g))) (endsT (wv g))) A B j = dwN (rowsOf g hg) A B (j 0).val (j 1).val (j 2).val := by
  obtain ⟨e, d, f, rfl⟩ : ∃ (e : Fin 3) (d : Fin 5120) (f : Fin 8192), j = ix3 e d f := ⟨j 0, j 1, j 2, (ix3_eta j).symm⟩
  have hle : ∀ p : Fin 3, start (rowsOf g hg) p.val + row (rowsOf g hg) p.val ≤ 12384 := fun p => by
    have := (rowsOf g hg).fits
    fin_cases p
    · show start (rowsOf g hg) 0 + row (rowsOf g hg) 0 ≤ _; rw [start_0, row_0]; omega
    · show start (rowsOf g hg) 1 + row (rowsOf g hg) 1 ≤ _; rw [start_1, row_1]; omega
    · show start (rowsOf g hg) 2 + row (rowsOf g hg) 2 ≤ _; rw [start_2, row_2]; omega
  have he := hle e
  rw [starts_eq g hg, ends_eq g hg, dot_apply]
  simp only [fun t => mask_apply (start (rowsOf g hg)) (fun e => start (rowsOf g hg) e + row (rowsOf g hg) e)
    (fun p => by have := hle p; omega) (fun p => by have := hle p; beta_reduce; omega) e t]
  show _ = dwN (rowsOf g hg) A B e.val d.val f.val
  unfold dwN
  rw [FinSumWindow.sum_window (start (rowsOf g hg) e.val) (W := row (rowsOf g hg) e.val) (by omega) _ fun t ht => by
    rw [decide_eq_false ht]; rfl]
  rw [← Fin.sum_univ_eq_sum_range (fun x => prodN A B d.val f.val (start (rowsOf g hg) e.val + x))]
  refine Finset.sum_congr rfl fun x _ => ?_
  have hx := x.isLt
  rw [decide_eq_true ⟨by show _ ≤ _ + _; omega, by show _ + _ < _; omega⟩]
  unfold prodN lhsN rhsN
  rw [dif_pos ⟨by omega, d.isLt⟩, dif_pos ⟨by omega, f.isLt⟩]
  rfl

/-- The plain program's result. -/
theorem res_apply (m : (ℓ : Loc nD τ sig) → Buf (Elt Ideal) ℓ) (c : Dev nD) (h : m ((c.tc : Thread nD τ).loc main_arg0) = wv g) :
    Value.res_main_v24 m c = fun j => dwN (rowsOf g hg) (m ((c.tc : Thread nD τ).loc main_arg1)) (m ((c.tc : Thread nD τ).loc main_arg2)) (j 0).val (j 1).val (j 2).val := by
  rw [res_eq, h]
  exact funext fun j => value_apply g hg _ _ j

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_groups_fit
public import proofs.«01_k».proof.Proof.Host
public import proofs.«01_k».proof.Proof.KHost
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem Cert.Words

/-- The sizes that a memory of the idealized kernel holds. -/
theorem sizes_ki (m : (ℓ : Loc Cert.KernelIdeal.nD Cert.KernelIdeal.τ Cert.KernelIdeal.sig) → Buf (Elt Ideal) ℓ) (h : Cert.Pre_KernelIdeal m) :
    ∃ g, (∀ c : Dev Cert.KernelIdeal.nD, (m ((c.tc : Thread Cert.KernelIdeal.nD Cert.KernelIdeal.τ).loc Cert.KernelIdeal.main_arg0) : Cert.KernelIdeal.S3.Idx → BitVec 32) = wv g) ∧ Sizes g := by
  obtain ⟨g, e, hg⟩ := sizes_of_pre _ _ _ (h 0)
  exact ⟨g, fun c => by rw [Subsingleton.elim c 0]; exact e, hg⟩

/-- The sizes that a memory of the kernel holds. -/
theorem sizes_k (m : (ℓ : Loc Cert.Kernel.nD Cert.Kernel.τ Cert.Kernel.sig) → Buf (Elt Bits) ℓ) (h : Cert.Pre_Kernel m) :
    ∃ g, (∀ c : Dev Cert.Kernel.nD, (m ((c.tc : Thread Cert.Kernel.nD Cert.Kernel.τ).loc Cert.Kernel.main_arg0) : Cert.Kernel.S3.Idx → BitVec 32) = wv g) ∧ Sizes g := by
  obtain ⟨g, e, hg⟩ := sizes_of_pre _ _ _ (h 0)
  exact ⟨g, fun c => by rw [Subsingleton.elim c 0]; exact e, hg⟩

/-- The kernel runs, leaves its arguments unchanged and every counter at zero. -/
theorem frame_k : Cert.quiescent_Kernel := by
  intro m ρ hpre
  obtain ⟨g, e, hg⟩ := sizes_k m hpre
  exact (θ_run Cert.Kernel.defs _ _).mono (fun _ h => ⟨fun c => (h.1 c).2, h.2⟩) (Cert.Kernel.Hand.run_sizes (F := Bits) m ρ g hg e)

/-- The idealized kernel runs, leaves its arguments unchanged and every counter at zero. -/
theorem frame_ki : Cert.quiescent_KernelIdeal := by
  intro m ρ hpre
  obtain ⟨g, e, hg⟩ := sizes_ki m hpre
  exact (θ_run Cert.KernelIdeal.defs _ _).mono (fun _ h => ⟨fun c => (h.1 c).2, h.2⟩) (Cert.KernelIdeal.Hand.run_sizes (F := Ideal) m ρ g hg e)

/-- The reference runs, leaves its arguments unchanged and every counter at zero. -/
theorem frame_r : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The same of the memories that the precondition holds of. -/
theorem frame_r_pre : Cert.quiescent_ReferenceIdeal_pre_groups_fit := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- From memories with equal arguments the idealized kernel and the reference end with the same result: over each group's rows, the
    sum of the products of the operands' elements. -/
theorem algebraic : Cert.algebraic_KernelIdeal_ReferenceIdeal := by
  intro m ρ m' ρ' hpre heq
  obtain ⟨g, e, hg⟩ := sizes_ki m hpre
  refine ⟨fun c => Cert.KernelIdeal.Hand.dwV (rowsOf g hg) (Cert.KernelIdeal.Hand.hostV m) c, ?_, ?_⟩
  · exact (θ_run Cert.KernelIdeal.defs _ _).mono (fun _ h c => ⟨(h.1 c).1.trans (Cert.KernelIdeal.Hand.final_eq _ _ c), (h.1 c).2⟩)
      (Cert.KernelIdeal.Hand.run_sizes (F := Ideal) m ρ g hg e)
  · refine (θ_run Cert.ReferenceIdeal.defs _ _).mono (fun _ h c => ⟨(h c).1.trans ?_, (h c).2⟩) (Cert.ReferenceIdeal.Value.run (F := Ideal) m' ρ')
    obtain ⟨h0, h1, h2⟩ := heq c
    rw [Cert.ReferenceIdeal.Hand.res_apply g hg m' c (h0.trans (e c)), h1, h2]
    unfold Cert.KernelIdeal.Hand.dwV
    beta_reduce
    rw [Cert.KernelIdeal.Hand.hostV_arg1, Cert.KernelIdeal.Hand.hostV_arg2]
    rfl

theorem claim : Cert.Claim := ⟨Cert.Kernel.Gen.facts, Cert.KernelIdeal.Gen.facts, Cert.ReferenceIdeal.Gen.facts, Cert.Pre_groups_fit.Gen.facts,
  frame_k, frame_ki, frame_r, frame_r_pre, trivial, algebraic⟩

end Cert.Proof

end
